-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v9) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_unclipped (hKernelIdeal := hKernelIdeal) (hReferenceIdeal := hReferenceIdeal) (hOn_unclipped := hOn_unclipped)
    ∧ algebraic_KernelIdeal_SiluIdeal (hKernelIdeal := hKernelIdeal) (hSiluIdeal := hSiluIdeal)
-- ==== On_unclipped.lean ====
abbrev S4096x4096 : Shape := ⟨2, ![4096, 4096]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .bf16) (main_arg1 : FVec F S4096x2048 .bf16) : IVec S4096x2048 1 :=
  let main_v0 : FVec F S4096x4096 .f32 := (extf .f32 · bitsLt_bf16_f32) main_arg0
  let main_v1 : FVec F S4096x2048 .f32 := (extf .f32 · bitsLt_bf16_f32) main_arg1
  let main_v2 : FVec F S4096x2048 .f32 := (fun l r => Host.dotGeneral dot_S4096x4096_S4096x2048_S4096x2048_1_0_0_1_n_n none l r) main_v0 main_v1
  let main_v3 : FVec F S4096x2048 .f32 := Host.absf main_v2
  let main_cst : FVec F S_ .f32 := constant S_ .f32 0x42700000#32
  let main_v4 : FVec F S4096x2048 .f32 := broadcastInDim S4096x2048 ![] bcast_S_S4096x2048 main_cst
  let main_v5 : IVec S4096x2048 1 := cmpf .ole main_v3 main_v4
  main_v5
-- ==== Kernel.lean ====
abbrev S4096x256 : Shape := ⟨2, ![4096, 256]⟩
abbrev S256x2048 : Shape := ⟨2, ![256, 2048]⟩
abbrev S4096x2048 : Shape := ⟨2, ![4096, 2048]⟩
abbrev S4x2x64x2048 : Shape := ⟨4, ![4, 2, 64, 2048]⟩
abbrev S4x2 : Shape := ⟨2, ![4, 2]⟩
abbrev S4 : Shape := ⟨1, ![4]⟩
abbrev S_ : Shape := ⟨0, ![]⟩
abbrev S64x256 : Shape := ⟨2, ![64, 256]⟩
abbrev S64x2048 : Shape := ⟨2, ![64, 2048]⟩
abbrev S1x1x64x2048 : Shape := ⟨4, ![1, 1, 64, 2048]⟩
abbrev S1x1 : Shape := ⟨2, ![1, 1]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .f32⟩
  | .local _ .vmem, ⟨0, _⟩ => ⟨S4096x256, .bf16⟩
  | .local _ .vmem, ⟨1, _⟩ => ⟨S256x2048, .bf16⟩
  | .local _ .vmem, ⟨2, _⟩ => ⟨S4096x256, .bf16⟩
  | .local _ .vmem, ⟨3, _⟩ => ⟨S256x2048, .bf16⟩
  | .local _ .vmem, ⟨4, _⟩ => ⟨S4x2x64x2048, .bf16⟩
  | .local _ .vmem, ⟨5, _⟩ => ⟨S4x2x64x2048, .bf16⟩
  | .local _ .vmem, ⟨6, _⟩ => ⟨S4x2x64x2048, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 5 26 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_17 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v23 : BitVec 32 := Scalar.muli v2 c256_i32
  let v24 : BitVec 32 := Scalar.addi v23 c0_i32_17
  let v25 : Index := Scalar.indexCast v24
  let c0_18 : Index := 0#32
  ![v25.toNat, 0]
def k0_dev3 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_57 : BitVec 32 := 1#32
  let v63 : BitVec 32 := Scalar.muli v7 c1_i32_57
  let v64 : BitVec 32 := Scalar.addi c0_i32_58 v63
  v64.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_71 : BitVec 32 := 1#32
  let v73 : BitVec 32 := Scalar.muli v7 c1_i32_71
  let v74 : BitVec 32 := Scalar.addi c0_i32_72 v73
  v74.toNat
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_85 : BitVec 32 := 1#32
  let v83 : BitVec 32 := Scalar.muli v5 c1_i32_85
  let v84 : BitVec 32 := Scalar.addi c0_i32_86 v83
  v84.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_98 : BitVec 32 := 1#32
  let v93 : BitVec 32 := Scalar.muli v5 c1_i32_98
  let v94 : BitVec 32 := Scalar.addi c0_i32_99 v93
  v94.toNat
def k0_off2 (d0 : Dev nD) (c0_i32_104 : BitVec 32) (c0_i32_109 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v103 : BitVec 32 := Scalar.subi v2 c0_i32_104
  let c1_i32_105 : BitVec 32 := 1#32
  let v104 : BitVec 32 := Scalar.subi v103 c1_i32_105
  let c64_i32_106 : BitVec 32 := 64#32
  let v105 : BitVec 32 := Scalar.addi v104 c64_i32_106
  let c16_i32_107 : BitVec 32 := 16#32
  let v106 : BitVec 32 := Scalar.remsi v105 c16_i32_107
  let c256_i32_108 : BitVec 32 := 256#32
  let v107 : BitVec 32 := Scalar.muli v106 c256_i32_108
  let v108 : BitVec 32 := Scalar.addi v107 c0_i32_109
  let v109 : Index := Scalar.indexCast v108
  let c0_110 : Index := 0#32
  ![v109.toNat, 0]
def k0_off3 (d0 : Dev nD) (c0_i32_124 : BitVec 32) (c128_i32_128 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v123 : BitVec 32 := Scalar.addi v2 c0_i32_124
  let c1_i32_125 : BitVec 32 := 1#32
  let v124 : BitVec 32 := Scalar.addi v123 c1_i32_125
  let c16_i32_126 : BitVec 32 := 16#32
  let v125 : BitVec 32 := Scalar.remsi v124 c16_i32_126
  let c256_i32_127 : BitVec 32 := 256#32
  let v126 : BitVec 32 := Scalar.muli v125 c256_i32_127
  let v127 : BitVec 32 := Scalar.addi v126 c128_i32_128
  let v128 : Index := Scalar.indexCast v127
  let c0_129 : Index := 0#32
  ![v128.toNat, 0]
def k0_dev7 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_179 : BitVec 32 := 1#32
  let v165 : BitVec 32 := Scalar.muli v5 c1_i32_179
  let v166 : BitVec 32 := Scalar.addi c0_i32_180 v165
  v166.toNat
def k0_dev8 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_189 : BitVec 32 := 1#32
  let v167 : BitVec 32 := Scalar.muli v7 c1_i32_189
  let v168 : BitVec 32 := Scalar.addi c0_i32_190 v167
  v168.toNat
def k0_dev9 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_232 : BitVec 32 := 1#32
  let v201 : BitVec 32 := Scalar.muli v5 c1_i32_232
  let v202 : BitVec 32 := Scalar.addi c0_i32_233 v201
  v202.toNat
def k0_dev10 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_242 : BitVec 32 := 1#32
  let v203 : BitVec 32 := Scalar.muli v7 c1_i32_242
  let v204 : BitVec 32 := Scalar.addi c0_i32_243 v203
  v204.toNat
def k0_dev11 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_285 : BitVec 32 := 1#32
  let v237 : BitVec 32 := Scalar.muli v7 c1_i32_285
  let v238 : BitVec 32 := Scalar.addi c0_i32_286 v237
  v238.toNat
def k0_dev12 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_295 : BitVec 32 := 1#32
  let v239 : BitVec 32 := Scalar.muli v5 c1_i32_295
  let v240 : BitVec 32 := Scalar.addi c0_i32_296 v239
  v240.toNat
def k0_dev13 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_338 : BitVec 32 := 1#32
  let v273 : BitVec 32 := Scalar.muli v7 c1_i32_338
  let v274 : BitVec 32 := Scalar.addi c0_i32_339 v273
  v274.toNat
def k0_dev14 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_348 : BitVec 32 := 1#32
  let v275 : BitVec 32 := Scalar.muli v5 c1_i32_348
  let v276 : BitVec 32 := Scalar.addi c0_i32_349 v275
  v276.toNat
def k0_dev15 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_429 : BitVec 32 := 1#32
  let v347 : BitVec 32 := Scalar.muli v5 c1_i32_429
  let v348 : BitVec 32 := Scalar.addi c0_i32_430 v347
  v348.toNat
def k0_dev16 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_442 : BitVec 32 := 1#32
  let v351 : BitVec 32 := Scalar.muli v7 c1_i32_442
  let v352 : BitVec 32 := Scalar.addi c0_i32_443 v351
  v352.toNat
def k0_dev17 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_485 : BitVec 32 := 1#32
  let v385 : BitVec 32 := Scalar.muli v5 c1_i32_485
  let v386 : BitVec 32 := Scalar.addi c0_i32_486 v385
  v386.toNat
def k0_dev18 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_498 : BitVec 32 := 1#32
  let v389 : BitVec 32 := Scalar.muli v7 c1_i32_498
  let v390 : BitVec 32 := Scalar.addi c0_i32_499 v389
  v390.toNat
def k0_dev19 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_541 : BitVec 32 := 1#32
  let v423 : BitVec 32 := Scalar.muli v7 c1_i32_541
  let v424 : BitVec 32 := Scalar.addi c0_i32_542 v423
  v424.toNat
def k0_dev20 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_554 : BitVec 32 := 1#32
  let v427 : BitVec 32 := Scalar.muli v5 c1_i32_554
  let v428 : BitVec 32 := Scalar.addi c0_i32_555 v427
  v428.toNat
def k0_dev21 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_597 : BitVec 32 := 1#32
  let v461 : BitVec 32 := Scalar.muli v7 c1_i32_597
  let v462 : BitVec 32 := Scalar.addi c0_i32_598 v461
  v462.toNat
def k0_dev22 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_610 : BitVec 32 := 1#32
  let v465 : BitVec 32 := Scalar.muli v5 c1_i32_610
  let v466 : BitVec 32 := Scalar.addi c0_i32_611 v465
  v466.toNat
def k0_dev23 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_691 : BitVec 32 := 1#32
  let v537 : BitVec 32 := Scalar.muli v5 c1_i32_691
  let v538 : BitVec 32 := Scalar.addi c0_i32_692 v537
  v538.toNat
def k0_dev24 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_704 : BitVec 32 := 1#32
  let v541 : BitVec 32 := Scalar.muli v7 c1_i32_704
  let v542 : BitVec 32 := Scalar.addi c0_i32_705 v541
  v542.toNat
def k0_dev25 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_747 : BitVec 32 := 1#32
  let v575 : BitVec 32 := Scalar.muli v5 c1_i32_747
  let v576 : BitVec 32 := Scalar.addi c0_i32_748 v575
  v576.toNat
def k0_dev26 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_760 : BitVec 32 := 1#32
  let v579 : BitVec 32 := Scalar.muli v7 c1_i32_760
  let v580 : BitVec 32 := Scalar.addi c0_i32_761 v579
  v580.toNat
def k0_dev27 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_803 : BitVec 32 := 1#32
  let v613 : BitVec 32 := Scalar.muli v7 c1_i32_803
  let v614 : BitVec 32 := Scalar.addi c0_i32_804 v613
  v614.toNat
def k0_dev28 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_816 : BitVec 32 := 1#32
  let v617 : BitVec 32 := Scalar.muli v5 c1_i32_816
  let v618 : BitVec 32 := Scalar.addi c0_i32_817 v617
  v618.toNat
def k0_dev29 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_859 : BitVec 32 := 1#32
  let v651 : BitVec 32 := Scalar.muli v7 c1_i32_859
  let v652 : BitVec 32 := Scalar.addi c0_i32_860 v651
  v652.toNat
def k0_dev30 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_872 : BitVec 32 := 1#32
  let v655 : BitVec 32 := Scalar.muli v5 c1_i32_872
  let v656 : BitVec 32 := Scalar.addi c0_i32_873 v655
  v656.toNat
def k0_dev31 (d0 : Dev nD) : Nat :=
  let c0_i32_954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_953 : BitVec 32 := 1#32
  let v727 : BitVec 32 := Scalar.muli v5 c1_i32_953
  let v728 : BitVec 32 := Scalar.addi c0_i32_954 v727
  v728.toNat
def k0_dev32 (d0 : Dev nD) : Nat :=
  let c0_i32_967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_966 : BitVec 32 := 1#32
  let v731 : BitVec 32 := Scalar.muli v7 c1_i32_966
  let v732 : BitVec 32 := Scalar.addi c0_i32_967 v731
  v732.toNat
def k0_dev33 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1009 : BitVec 32 := 1#32
  let v765 : BitVec 32 := Scalar.muli v5 c1_i32_1009
  let v766 : BitVec 32 := Scalar.addi c0_i32_1010 v765
  v766.toNat
def k0_dev34 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1022 : BitVec 32 := 1#32
  let v769 : BitVec 32 := Scalar.muli v7 c1_i32_1022
  let v770 : BitVec 32 := Scalar.addi c0_i32_1023 v769
  v770.toNat
def k0_dev35 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1065 : BitVec 32 := 1#32
  let v803 : BitVec 32 := Scalar.muli v7 c1_i32_1065
  let v804 : BitVec 32 := Scalar.addi c0_i32_1066 v803
  v804.toNat
def k0_dev36 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1078 : BitVec 32 := 1#32
  let v807 : BitVec 32 := Scalar.muli v5 c1_i32_1078
  let v808 : BitVec 32 := Scalar.addi c0_i32_1079 v807
  v808.toNat
def k0_dev37 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1121 : BitVec 32 := 1#32
  let v841 : BitVec 32 := Scalar.muli v7 c1_i32_1121
  let v842 : BitVec 32 := Scalar.addi c0_i32_1122 v841
  v842.toNat
def k0_dev38 (d0 : Dev nD) : Nat :=
  let c0_i32_1135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1134 : BitVec 32 := 1#32
  let v845 : BitVec 32 := Scalar.muli v5 c1_i32_1134
  let v846 : BitVec 32 := Scalar.addi c0_i32_1135 v845
  v846.toNat
def k0_dev39 (d0 : Dev nD) : Nat :=
  let c0_i32_1215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1214 : BitVec 32 := 1#32
  let v917 : BitVec 32 := Scalar.muli v5 c1_i32_1214
  let v918 : BitVec 32 := Scalar.addi c0_i32_1215 v917
  v918.toNat
def k0_dev40 (d0 : Dev nD) : Nat :=
  let c0_i32_1228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1227 : BitVec 32 := 1#32
  let v921 : BitVec 32 := Scalar.muli v7 c1_i32_1227
  let v922 : BitVec 32 := Scalar.addi c0_i32_1228 v921
  v922.toNat
def k0_dev41 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1270 : BitVec 32 := 1#32
  let v955 : BitVec 32 := Scalar.muli v5 c1_i32_1270
  let v956 : BitVec 32 := Scalar.addi c0_i32_1271 v955
  v956.toNat
def k0_dev42 (d0 : Dev nD) : Nat :=
  let c0_i32_1284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1283 : BitVec 32 := 1#32
  let v959 : BitVec 32 := Scalar.muli v7 c1_i32_1283
  let v960 : BitVec 32 := Scalar.addi c0_i32_1284 v959
  v960.toNat
def k0_dev43 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1326 : BitVec 32 := 1#32
  let v993 : BitVec 32 := Scalar.muli v7 c1_i32_1326
  let v994 : BitVec 32 := Scalar.addi c0_i32_1327 v993
  v994.toNat
def k0_dev44 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1339 : BitVec 32 := 1#32
  let v997 : BitVec 32 := Scalar.muli v5 c1_i32_1339
  let v998 : BitVec 32 := Scalar.addi c0_i32_1340 v997
  v998.toNat
def k0_dev45 (d0 : Dev nD) : Nat :=
  let c0_i32_1383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1382 : BitVec 32 := 1#32
  let v1031 : BitVec 32 := Scalar.muli v7 c1_i32_1382
  let v1032 : BitVec 32 := Scalar.addi c0_i32_1383 v1031
  v1032.toNat
def k0_dev46 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1395 : BitVec 32 := 1#32
  let v1035 : BitVec 32 := Scalar.muli v5 c1_i32_1395
  let v1036 : BitVec 32 := Scalar.addi c0_i32_1396 v1035
  v1036.toNat
def k0_dev47 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1475 : BitVec 32 := 1#32
  let v1107 : BitVec 32 := Scalar.muli v5 c1_i32_1475
  let v1108 : BitVec 32 := Scalar.addi c0_i32_1476 v1107
  v1108.toNat
def k0_dev48 (d0 : Dev nD) : Nat :=
  let c0_i32_1489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1488 : BitVec 32 := 1#32
  let v1111 : BitVec 32 := Scalar.muli v7 c1_i32_1488
  let v1112 : BitVec 32 := Scalar.addi c0_i32_1489 v1111
  v1112.toNat
def k0_dev49 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1531 : BitVec 32 := 1#32
  let v1145 : BitVec 32 := Scalar.muli v5 c1_i32_1531
  let v1146 : BitVec 32 := Scalar.addi c0_i32_1532 v1145
  v1146.toNat
def k0_dev50 (d0 : Dev nD) : Nat :=
  let c0_i32_1545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1544 : BitVec 32 := 1#32
  let v1149 : BitVec 32 := Scalar.muli v7 c1_i32_1544
  let v1150 : BitVec 32 := Scalar.addi c0_i32_1545 v1149
  v1150.toNat
def k0_dev51 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1587 : BitVec 32 := 1#32
  let v1183 : BitVec 32 := Scalar.muli v7 c1_i32_1587
  let v1184 : BitVec 32 := Scalar.addi c0_i32_1588 v1183
  v1184.toNat
def k0_dev52 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1600 : BitVec 32 := 1#32
  let v1187 : BitVec 32 := Scalar.muli v5 c1_i32_1600
  let v1188 : BitVec 32 := Scalar.addi c0_i32_1601 v1187
  v1188.toNat
def k0_dev53 (d0 : Dev nD) : Nat :=
  let c0_i32_1644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1643 : BitVec 32 := 1#32
  let v1221 : BitVec 32 := Scalar.muli v7 c1_i32_1643
  let v1222 : BitVec 32 := Scalar.addi c0_i32_1644 v1221
  v1222.toNat
def k0_dev54 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1656 : BitVec 32 := 1#32
  let v1225 : BitVec 32 := Scalar.muli v5 c1_i32_1656
  let v1226 : BitVec 32 := Scalar.addi c0_i32_1657 v1225
  v1226.toNat
def k0_dev55 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1736 : BitVec 32 := 1#32
  let v1297 : BitVec 32 := Scalar.muli v5 c1_i32_1736
  let v1298 : BitVec 32 := Scalar.addi c0_i32_1737 v1297
  v1298.toNat
def k0_dev56 (d0 : Dev nD) : Nat :=
  let c0_i32_1750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1749 : BitVec 32 := 1#32
  let v1301 : BitVec 32 := Scalar.muli v7 c1_i32_1749
  let v1302 : BitVec 32 := Scalar.addi c0_i32_1750 v1301
  v1302.toNat
def k0_dev57 (d0 : Dev nD) : Nat :=
  let c0_i32_1793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1792 : BitVec 32 := 1#32
  let v1335 : BitVec 32 := Scalar.muli v5 c1_i32_1792
  let v1336 : BitVec 32 := Scalar.addi c0_i32_1793 v1335
  v1336.toNat
def k0_dev58 (d0 : Dev nD) : Nat :=
  let c0_i32_1806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1805 : BitVec 32 := 1#32
  let v1339 : BitVec 32 := Scalar.muli v7 c1_i32_1805
  let v1340 : BitVec 32 := Scalar.addi c0_i32_1806 v1339
  v1340.toNat
def k0_dev59 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1848 : BitVec 32 := 1#32
  let v1373 : BitVec 32 := Scalar.muli v7 c1_i32_1848
  let v1374 : BitVec 32 := Scalar.addi c0_i32_1849 v1373
  v1374.toNat
def k0_dev60 (d0 : Dev nD) : Nat :=
  let c0_i32_1862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1861 : BitVec 32 := 1#32
  let v1377 : BitVec 32 := Scalar.muli v5 c1_i32_1861
  let v1378 : BitVec 32 := Scalar.addi c0_i32_1862 v1377
  v1378.toNat
def k0_dev61 (d0 : Dev nD) : Nat :=
  let c0_i32_1905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1904 : BitVec 32 := 1#32
  let v1411 : BitVec 32 := Scalar.muli v7 c1_i32_1904
  let v1412 : BitVec 32 := Scalar.addi c0_i32_1905 v1411
  v1412.toNat
def k0_dev62 (d0 : Dev nD) : Nat :=
  let c0_i32_1918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1917 : BitVec 32 := 1#32
  let v1415 : BitVec 32 := Scalar.muli v5 c1_i32_1917
  let v1416 : BitVec 32 := Scalar.addi c0_i32_1918 v1415
  v1416.toNat
def k0_dev63 (d0 : Dev nD) : Nat :=
  let c0_i32_1998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1997 : BitVec 32 := 1#32
  let v1487 : BitVec 32 := Scalar.muli v5 c1_i32_1997
  let v1488 : BitVec 32 := Scalar.addi c0_i32_1998 v1487
  v1488.toNat
def k0_dev64 (d0 : Dev nD) : Nat :=
  let c0_i32_2011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2010 : BitVec 32 := 1#32
  let v1491 : BitVec 32 := Scalar.muli v7 c1_i32_2010
  let v1492 : BitVec 32 := Scalar.addi c0_i32_2011 v1491
  v1492.toNat
def k0_dev65 (d0 : Dev nD) : Nat :=
  let c0_i32_2054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2053 : BitVec 32 := 1#32
  let v1525 : BitVec 32 := Scalar.muli v5 c1_i32_2053
  let v1526 : BitVec 32 := Scalar.addi c0_i32_2054 v1525
  v1526.toNat
def k0_dev66 (d0 : Dev nD) : Nat :=
  let c0_i32_2067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2066 : BitVec 32 := 1#32
  let v1529 : BitVec 32 := Scalar.muli v7 c1_i32_2066
  let v1530 : BitVec 32 := Scalar.addi c0_i32_2067 v1529
  v1530.toNat
def k0_dev67 (d0 : Dev nD) : Nat :=
  let c0_i32_2110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2109 : BitVec 32 := 1#32
  let v1563 : BitVec 32 := Scalar.muli v7 c1_i32_2109
  let v1564 : BitVec 32 := Scalar.addi c0_i32_2110 v1563
  v1564.toNat
def k0_dev68 (d0 : Dev nD) : Nat :=
  let c0_i32_2123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2122 : BitVec 32 := 1#32
  let v1567 : BitVec 32 := Scalar.muli v5 c1_i32_2122
  let v1568 : BitVec 32 := Scalar.addi c0_i32_2123 v1567
  v1568.toNat
def k0_dev69 (d0 : Dev nD) : Nat :=
  let c0_i32_2166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2165 : BitVec 32 := 1#32
  let v1601 : BitVec 32 := Scalar.muli v7 c1_i32_2165
  let v1602 : BitVec 32 := Scalar.addi c0_i32_2166 v1601
  v1602.toNat
def k0_dev70 (d0 : Dev nD) : Nat :=
  let c0_i32_2179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2178 : BitVec 32 := 1#32
  let v1605 : BitVec 32 := Scalar.muli v5 c1_i32_2178
  let v1606 : BitVec 32 := Scalar.addi c0_i32_2179 v1605
  v1606.toNat
def k0_dev71 (d0 : Dev nD) : Nat :=
  let c0_i32_2259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2258 : BitVec 32 := 1#32
  let v1677 : BitVec 32 := Scalar.muli v5 c1_i32_2258
  let v1678 : BitVec 32 := Scalar.addi c0_i32_2259 v1677
  v1678.toNat
def k0_dev72 (d0 : Dev nD) : Nat :=
  let c0_i32_2272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2271 : BitVec 32 := 1#32
  let v1681 : BitVec 32 := Scalar.muli v7 c1_i32_2271
  let v1682 : BitVec 32 := Scalar.addi c0_i32_2272 v1681
  v1682.toNat
def k0_dev73 (d0 : Dev nD) : Nat :=
  let c0_i32_2315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2314 : BitVec 32 := 1#32
  let v1715 : BitVec 32 := Scalar.muli v5 c1_i32_2314
  let v1716 : BitVec 32 := Scalar.addi c0_i32_2315 v1715
  v1716.toNat
def k0_dev74 (d0 : Dev nD) : Nat :=
  let c0_i32_2328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2327 : BitVec 32 := 1#32
  let v1719 : BitVec 32 := Scalar.muli v7 c1_i32_2327
  let v1720 : BitVec 32 := Scalar.addi c0_i32_2328 v1719
  v1720.toNat
def k0_dev75 (d0 : Dev nD) : Nat :=
  let c0_i32_2371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2370 : BitVec 32 := 1#32
  let v1753 : BitVec 32 := Scalar.muli v7 c1_i32_2370
  let v1754 : BitVec 32 := Scalar.addi c0_i32_2371 v1753
  v1754.toNat
def k0_dev76 (d0 : Dev nD) : Nat :=
  let c0_i32_2384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2383 : BitVec 32 := 1#32
  let v1757 : BitVec 32 := Scalar.muli v5 c1_i32_2383
  let v1758 : BitVec 32 := Scalar.addi c0_i32_2384 v1757
  v1758.toNat
def k0_dev77 (d0 : Dev nD) : Nat :=
  let c0_i32_2427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2426 : BitVec 32 := 1#32
  let v1791 : BitVec 32 := Scalar.muli v7 c1_i32_2426
  let v1792 : BitVec 32 := Scalar.addi c0_i32_2427 v1791
  v1792.toNat
def k0_dev78 (d0 : Dev nD) : Nat :=
  let c0_i32_2440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2439 : BitVec 32 := 1#32
  let v1795 : BitVec 32 := Scalar.muli v5 c1_i32_2439
  let v1796 : BitVec 32 := Scalar.addi c0_i32_2440 v1795
  v1796.toNat
def k0_dev79 (d0 : Dev nD) : Nat :=
  let c0_i32_2520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2519 : BitVec 32 := 1#32
  let v1867 : BitVec 32 := Scalar.muli v5 c1_i32_2519
  let v1868 : BitVec 32 := Scalar.addi c0_i32_2520 v1867
  v1868.toNat
def k0_dev80 (d0 : Dev nD) : Nat :=
  let c0_i32_2533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2532 : BitVec 32 := 1#32
  let v1871 : BitVec 32 := Scalar.muli v7 c1_i32_2532
  let v1872 : BitVec 32 := Scalar.addi c0_i32_2533 v1871
  v1872.toNat
def k0_dev81 (d0 : Dev nD) : Nat :=
  let c0_i32_2576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2575 : BitVec 32 := 1#32
  let v1905 : BitVec 32 := Scalar.muli v5 c1_i32_2575
  let v1906 : BitVec 32 := Scalar.addi c0_i32_2576 v1905
  v1906.toNat
def k0_dev82 (d0 : Dev nD) : Nat :=
  let c0_i32_2589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2588 : BitVec 32 := 1#32
  let v1909 : BitVec 32 := Scalar.muli v7 c1_i32_2588
  let v1910 : BitVec 32 := Scalar.addi c0_i32_2589 v1909
  v1910.toNat
def k0_dev83 (d0 : Dev nD) : Nat :=
  let c0_i32_2632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2631 : BitVec 32 := 1#32
  let v1943 : BitVec 32 := Scalar.muli v7 c1_i32_2631
  let v1944 : BitVec 32 := Scalar.addi c0_i32_2632 v1943
  v1944.toNat
def k0_dev84 (d0 : Dev nD) : Nat :=
  let c0_i32_2645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2644 : BitVec 32 := 1#32
  let v1947 : BitVec 32 := Scalar.muli v5 c1_i32_2644
  let v1948 : BitVec 32 := Scalar.addi c0_i32_2645 v1947
  v1948.toNat
def k0_dev85 (d0 : Dev nD) : Nat :=
  let c0_i32_2688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2687 : BitVec 32 := 1#32
  let v1981 : BitVec 32 := Scalar.muli v7 c1_i32_2687
  let v1982 : BitVec 32 := Scalar.addi c0_i32_2688 v1981
  v1982.toNat
def k0_dev86 (d0 : Dev nD) : Nat :=
  let c0_i32_2701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2700 : BitVec 32 := 1#32
  let v1985 : BitVec 32 := Scalar.muli v5 c1_i32_2700
  let v1986 : BitVec 32 := Scalar.addi c0_i32_2701 v1985
  v1986.toNat
def k0_dev87 (d0 : Dev nD) : Nat :=
  let c0_i32_2781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2780 : BitVec 32 := 1#32
  let v2057 : BitVec 32 := Scalar.muli v5 c1_i32_2780
  let v2058 : BitVec 32 := Scalar.addi c0_i32_2781 v2057
  v2058.toNat
def k0_dev88 (d0 : Dev nD) : Nat :=
  let c0_i32_2794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2793 : BitVec 32 := 1#32
  let v2061 : BitVec 32 := Scalar.muli v7 c1_i32_2793
  let v2062 : BitVec 32 := Scalar.addi c0_i32_2794 v2061
  v2062.toNat
def k0_dev89 (d0 : Dev nD) : Nat :=
  let c0_i32_2837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2836 : BitVec 32 := 1#32
  let v2095 : BitVec 32 := Scalar.muli v5 c1_i32_2836
  let v2096 : BitVec 32 := Scalar.addi c0_i32_2837 v2095
  v2096.toNat
def k0_dev90 (d0 : Dev nD) : Nat :=
  let c0_i32_2850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2849 : BitVec 32 := 1#32
  let v2099 : BitVec 32 := Scalar.muli v7 c1_i32_2849
  let v2100 : BitVec 32 := Scalar.addi c0_i32_2850 v2099
  v2100.toNat
def k0_dev91 (d0 : Dev nD) : Nat :=
  let c0_i32_2893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2892 : BitVec 32 := 1#32
  let v2133 : BitVec 32 := Scalar.muli v7 c1_i32_2892
  let v2134 : BitVec 32 := Scalar.addi c0_i32_2893 v2133
  v2134.toNat
def k0_dev92 (d0 : Dev nD) : Nat :=
  let c0_i32_2906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2905 : BitVec 32 := 1#32
  let v2137 : BitVec 32 := Scalar.muli v5 c1_i32_2905
  let v2138 : BitVec 32 := Scalar.addi c0_i32_2906 v2137
  v2138.toNat
def k0_dev93 (d0 : Dev nD) : Nat :=
  let c0_i32_2949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2948 : BitVec 32 := 1#32
  let v2171 : BitVec 32 := Scalar.muli v7 c1_i32_2948
  let v2172 : BitVec 32 := Scalar.addi c0_i32_2949 v2171
  v2172.toNat
def k0_dev94 (d0 : Dev nD) : Nat :=
  let c0_i32_2962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2961 : BitVec 32 := 1#32
  let v2175 : BitVec 32 := Scalar.muli v5 c1_i32_2961
  let v2176 : BitVec 32 := Scalar.addi c0_i32_2962 v2175
  v2176.toNat
def k0_dev95 (d0 : Dev nD) : Nat :=
  let c0_i32_3042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3041 : BitVec 32 := 1#32
  let v2247 : BitVec 32 := Scalar.muli v5 c1_i32_3041
  let v2248 : BitVec 32 := Scalar.addi c0_i32_3042 v2247
  v2248.toNat
def k0_dev96 (d0 : Dev nD) : Nat :=
  let c0_i32_3055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3054 : BitVec 32 := 1#32
  let v2251 : BitVec 32 := Scalar.muli v7 c1_i32_3054
  let v2252 : BitVec 32 := Scalar.addi c0_i32_3055 v2251
  v2252.toNat
def k0_dev97 (d0 : Dev nD) : Nat :=
  let c0_i32_3098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3097 : BitVec 32 := 1#32
  let v2285 : BitVec 32 := Scalar.muli v5 c1_i32_3097
  let v2286 : BitVec 32 := Scalar.addi c0_i32_3098 v2285
  v2286.toNat
def k0_dev98 (d0 : Dev nD) : Nat :=
  let c0_i32_3111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3110 : BitVec 32 := 1#32
  let v2289 : BitVec 32 := Scalar.muli v7 c1_i32_3110
  let v2290 : BitVec 32 := Scalar.addi c0_i32_3111 v2289
  v2290.toNat
def k0_dev99 (d0 : Dev nD) : Nat :=
  let c0_i32_3154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3153 : BitVec 32 := 1#32
  let v2323 : BitVec 32 := Scalar.muli v7 c1_i32_3153
  let v2324 : BitVec 32 := Scalar.addi c0_i32_3154 v2323
  v2324.toNat
def k0_dev100 (d0 : Dev nD) : Nat :=
  let c0_i32_3167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3166 : BitVec 32 := 1#32
  let v2327 : BitVec 32 := Scalar.muli v5 c1_i32_3166
  let v2328 : BitVec 32 := Scalar.addi c0_i32_3167 v2327
  v2328.toNat
def k0_dev101 (d0 : Dev nD) : Nat :=
  let c0_i32_3210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3209 : BitVec 32 := 1#32
  let v2361 : BitVec 32 := Scalar.muli v7 c1_i32_3209
  let v2362 : BitVec 32 := Scalar.addi c0_i32_3210 v2361
  v2362.toNat
def k0_dev102 (d0 : Dev nD) : Nat :=
  let c0_i32_3223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3222 : BitVec 32 := 1#32
  let v2365 : BitVec 32 := Scalar.muli v5 c1_i32_3222
  let v2366 : BitVec 32 := Scalar.addi c0_i32_3223 v2365
  v2366.toNat
def k0_dev103 (d0 : Dev nD) : Nat :=
  let c0_i32_3303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3302 : BitVec 32 := 1#32
  let v2437 : BitVec 32 := Scalar.muli v5 c1_i32_3302
  let v2438 : BitVec 32 := Scalar.addi c0_i32_3303 v2437
  v2438.toNat
def k0_dev104 (d0 : Dev nD) : Nat :=
  let c0_i32_3316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3315 : BitVec 32 := 1#32
  let v2441 : BitVec 32 := Scalar.muli v7 c1_i32_3315
  let v2442 : BitVec 32 := Scalar.addi c0_i32_3316 v2441
  v2442.toNat
def k0_dev105 (d0 : Dev nD) : Nat :=
  let c0_i32_3359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3358 : BitVec 32 := 1#32
  let v2475 : BitVec 32 := Scalar.muli v5 c1_i32_3358
  let v2476 : BitVec 32 := Scalar.addi c0_i32_3359 v2475
  v2476.toNat
def k0_dev106 (d0 : Dev nD) : Nat :=
  let c0_i32_3372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3371 : BitVec 32 := 1#32
  let v2479 : BitVec 32 := Scalar.muli v7 c1_i32_3371
  let v2480 : BitVec 32 := Scalar.addi c0_i32_3372 v2479
  v2480.toNat
def k0_dev107 (d0 : Dev nD) : Nat :=
  let c0_i32_3415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3414 : BitVec 32 := 1#32
  let v2513 : BitVec 32 := Scalar.muli v7 c1_i32_3414
  let v2514 : BitVec 32 := Scalar.addi c0_i32_3415 v2513
  v2514.toNat
def k0_dev108 (d0 : Dev nD) : Nat :=
  let c0_i32_3428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3427 : BitVec 32 := 1#32
  let v2517 : BitVec 32 := Scalar.muli v5 c1_i32_3427
  let v2518 : BitVec 32 := Scalar.addi c0_i32_3428 v2517
  v2518.toNat
def k0_dev109 (d0 : Dev nD) : Nat :=
  let c0_i32_3471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3470 : BitVec 32 := 1#32
  let v2551 : BitVec 32 := Scalar.muli v7 c1_i32_3470
  let v2552 : BitVec 32 := Scalar.addi c0_i32_3471 v2551
  v2552.toNat
def k0_dev110 (d0 : Dev nD) : Nat :=
  let c0_i32_3484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3483 : BitVec 32 := 1#32
  let v2555 : BitVec 32 := Scalar.muli v5 c1_i32_3483
  let v2556 : BitVec 32 := Scalar.addi c0_i32_3484 v2555
  v2556.toNat
def k0_dev111 (d0 : Dev nD) : Nat :=
  let c0_i32_3564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3563 : BitVec 32 := 1#32
  let v2627 : BitVec 32 := Scalar.muli v5 c1_i32_3563
  let v2628 : BitVec 32 := Scalar.addi c0_i32_3564 v2627
  v2628.toNat
def k0_dev112 (d0 : Dev nD) : Nat :=
  let c0_i32_3577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3576 : BitVec 32 := 1#32
  let v2631 : BitVec 32 := Scalar.muli v7 c1_i32_3576
  let v2632 : BitVec 32 := Scalar.addi c0_i32_3577 v2631
  v2632.toNat
def k0_dev113 (d0 : Dev nD) : Nat :=
  let c0_i32_3620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3619 : BitVec 32 := 1#32
  let v2665 : BitVec 32 := Scalar.muli v5 c1_i32_3619
  let v2666 : BitVec 32 := Scalar.addi c0_i32_3620 v2665
  v2666.toNat
def k0_dev114 (d0 : Dev nD) : Nat :=
  let c0_i32_3633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3632 : BitVec 32 := 1#32
  let v2669 : BitVec 32 := Scalar.muli v7 c1_i32_3632
  let v2670 : BitVec 32 := Scalar.addi c0_i32_3633 v2669
  v2670.toNat
def k0_dev115 (d0 : Dev nD) : Nat :=
  let c0_i32_3676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3675 : BitVec 32 := 1#32
  let v2703 : BitVec 32 := Scalar.muli v7 c1_i32_3675
  let v2704 : BitVec 32 := Scalar.addi c0_i32_3676 v2703
  v2704.toNat
def k0_dev116 (d0 : Dev nD) : Nat :=
  let c0_i32_3689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3688 : BitVec 32 := 1#32
  let v2707 : BitVec 32 := Scalar.muli v5 c1_i32_3688
  let v2708 : BitVec 32 := Scalar.addi c0_i32_3689 v2707
  v2708.toNat
def k0_dev117 (d0 : Dev nD) : Nat :=
  let c0_i32_3732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3731 : BitVec 32 := 1#32
  let v2741 : BitVec 32 := Scalar.muli v7 c1_i32_3731
  let v2742 : BitVec 32 := Scalar.addi c0_i32_3732 v2741
  v2742.toNat
def k0_dev118 (d0 : Dev nD) : Nat :=
  let c0_i32_3745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3744 : BitVec 32 := 1#32
  let v2745 : BitVec 32 := Scalar.muli v5 c1_i32_3744
  let v2746 : BitVec 32 := Scalar.addi c0_i32_3745 v2745
  v2746.toNat
def k0_off4 (d0 : Dev nD) (c14_i32_3814 : BitVec 32) (c0_i32_3827 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2807 : BitVec 32 := Scalar.subi v2 c14_i32_3814
  let c1_i32_3815 : BitVec 32 := 1#32
  let v2808 : BitVec 32 := Scalar.subi v2807 c1_i32_3815
  let c64_i32_3816 : BitVec 32 := 64#32
  let v2809 : BitVec 32 := Scalar.addi v2808 c64_i32_3816
  let c16_i32_3817 : BitVec 32 := 16#32
  let v2810 : BitVec 32 := Scalar.remsi v2809 c16_i32_3817
  let c256_i32_3826 : BitVec 32 := 256#32
  let v2821 : BitVec 32 := Scalar.muli v2810 c256_i32_3826
  let v2822 : BitVec 32 := Scalar.addi v2821 c0_i32_3827
  let c0_i32_3836 : BitVec 32 := 0#32
  ![v2822.toNat, 0]
def k0_dev119 (d0 : Dev nD) : Nat :=
  let c0_i32_3842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3841 : BitVec 32 := 1#32
  let v2833 : BitVec 32 := Scalar.muli v5 c1_i32_3841
  let v2834 : BitVec 32 := Scalar.addi c0_i32_3842 v2833
  v2834.toNat
def k0_dev120 (d0 : Dev nD) : Nat :=
  let c0_i32_3855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3854 : BitVec 32 := 1#32
  let v2837 : BitVec 32 := Scalar.muli v7 c1_i32_3854
  let v2838 : BitVec 32 := Scalar.addi c0_i32_3855 v2837
  v2838.toNat
def k0_dev121 (d0 : Dev nD) : Nat :=
  let c0_i32_3915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3914 : BitVec 32 := 1#32
  let v2887 : BitVec 32 := Scalar.muli v5 c1_i32_3914
  let v2888 : BitVec 32 := Scalar.addi c0_i32_3915 v2887
  v2888.toNat
def k0_dev122 (d0 : Dev nD) : Nat :=
  let c0_i32_3928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3927 : BitVec 32 := 1#32
  let v2891 : BitVec 32 := Scalar.muli v7 c1_i32_3927
  let v2892 : BitVec 32 := Scalar.addi c0_i32_3928 v2891
  v2892.toNat
def k0_off5 (d0 : Dev nD) (c14_i32_3960 : BitVec 32) (c128_i32_3972 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2915 : BitVec 32 := Scalar.addi v2 c14_i32_3960
  let c1_i32_3961 : BitVec 32 := 1#32
  let v2916 : BitVec 32 := Scalar.addi v2915 c1_i32_3961
  let c16_i32_3962 : BitVec 32 := 16#32
  let v2917 : BitVec 32 := Scalar.remsi v2916 c16_i32_3962
  let c256_i32_3971 : BitVec 32 := 256#32
  let v2928 : BitVec 32 := Scalar.muli v2917 c256_i32_3971
  let v2929 : BitVec 32 := Scalar.addi v2928 c128_i32_3972
  let c0_i32_3981 : BitVec 32 := 0#32
  ![v2929.toNat, 0]
def k0_dev123 (d0 : Dev nD) : Nat :=
  let c0_i32_3987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3986 : BitVec 32 := 1#32
  let v2940 : BitVec 32 := Scalar.muli v7 c1_i32_3986
  let v2941 : BitVec 32 := Scalar.addi c0_i32_3987 v2940
  v2941.toNat
def k0_dev124 (d0 : Dev nD) : Nat :=
  let c0_i32_4000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3999 : BitVec 32 := 1#32
  let v2944 : BitVec 32 := Scalar.muli v5 c1_i32_3999
  let v2945 : BitVec 32 := Scalar.addi c0_i32_4000 v2944
  v2945.toNat
def k0_dev125 (d0 : Dev nD) : Nat :=
  let c0_i32_4059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4058 : BitVec 32 := 1#32
  let v2993 : BitVec 32 := Scalar.muli v7 c1_i32_4058
  let v2994 : BitVec 32 := Scalar.addi c0_i32_4059 v2993
  v2994.toNat
def k0_dev126 (d0 : Dev nD) : Nat :=
  let c0_i32_4072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4071 : BitVec 32 := 1#32
  let v2997 : BitVec 32 := Scalar.muli v5 c1_i32_4071
  let v2998 : BitVec 32 := Scalar.addi c0_i32_4072 v2997
  v2998.toNat
def k0_dev127 (d0 : Dev nD) : Nat :=
  let c0_i32_4136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4135 : BitVec 32 := 1#32
  let v3040 : BitVec 32 := Scalar.muli v7 c1_i32_4135
  let v3041 : BitVec 32 := Scalar.addi c0_i32_4136 v3040
  v3041.toNat
def k0_dev128 (d0 : Dev nD) : Nat :=
  let c0_i32_4201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4200 : BitVec 32 := 1#32
  let v3083 : BitVec 32 := Scalar.muli v7 c1_i32_4200
  let v3084 : BitVec 32 := Scalar.addi c0_i32_4201 v3083
  v3084.toNat
def k0_dev129 (d0 : Dev nD) : Nat :=
  let c0_i32_4265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4264 : BitVec 32 := 1#32
  let v3125 : BitVec 32 := Scalar.muli v5 c1_i32_4264
  let v3126 : BitVec 32 := Scalar.addi c0_i32_4265 v3125
  v3126.toNat
def k0_dev130 (d0 : Dev nD) : Nat :=
  let c0_i32_4329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4328 : BitVec 32 := 1#32
  let v3167 : BitVec 32 := Scalar.muli v5 c1_i32_4328
  let v3168 : BitVec 32 := Scalar.addi c0_i32_4329 v3167
  v3168.toNat
def k0_dev131 (d0 : Dev nD) : Nat :=
  let c0_i32_4368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4367 : BitVec 32 := 1#32
  let v3197 : BitVec 32 := Scalar.muli v5 c1_i32_4367
  let v3198 : BitVec 32 := Scalar.addi c0_i32_4368 v3197
  v3198.toNat
def k0_dev132 (d0 : Dev nD) : Nat :=
  let c0_i32_4405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4404 : BitVec 32 := 1#32
  let v3219 : BitVec 32 := Scalar.muli v7 c1_i32_4404
  let v3220 : BitVec 32 := Scalar.addi c0_i32_4405 v3219
  v3220.toNat
def k0_dev133 (d0 : Dev nD) : Nat :=
  let c0_i32_4444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4443 : BitVec 32 := 1#32
  let v3249 : BitVec 32 := Scalar.muli v5 c1_i32_4443
  let v3250 : BitVec 32 := Scalar.addi c0_i32_4444 v3249
  v3250.toNat
def k0_dev134 (d0 : Dev nD) : Nat :=
  let c0_i32_4481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4480 : BitVec 32 := 1#32
  let v3271 : BitVec 32 := Scalar.muli v7 c1_i32_4480
  let v3272 : BitVec 32 := Scalar.addi c0_i32_4481 v3271
  v3272.toNat
def k0_dev135 (d0 : Dev nD) : Nat :=
  let c0_i32_4519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4518 : BitVec 32 := 1#32
  let v3300 : BitVec 32 := Scalar.muli v7 c1_i32_4518
  let v3301 : BitVec 32 := Scalar.addi c0_i32_4519 v3300
  v3301.toNat
def k0_dev136 (d0 : Dev nD) : Nat :=
  let c0_i32_4556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4555 : BitVec 32 := 1#32
  let v3322 : BitVec 32 := Scalar.muli v5 c1_i32_4555
  let v3323 : BitVec 32 := Scalar.addi c0_i32_4556 v3322
  v3323.toNat
def k0_dev137 (d0 : Dev nD) : Nat :=
  let c0_i32_4594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4593 : BitVec 32 := 1#32
  let v3351 : BitVec 32 := Scalar.muli v7 c1_i32_4593
  let v3352 : BitVec 32 := Scalar.addi c0_i32_4594 v3351
  v3352.toNat
def k0_dev138 (d0 : Dev nD) : Nat :=
  let c0_i32_4631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4630 : BitVec 32 := 1#32
  let v3373 : BitVec 32 := Scalar.muli v5 c1_i32_4630
  let v3374 : BitVec 32 := Scalar.addi c0_i32_4631 v3373
  v3374.toNat
def k0_dev139 (d0 : Dev nD) : Nat :=
  let c0_i32_4669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4668 : BitVec 32 := 1#32
  let v3403 : BitVec 32 := Scalar.muli v5 c1_i32_4668
  let v3404 : BitVec 32 := Scalar.addi c0_i32_4669 v3403
  v3404.toNat
def k0_dev140 (d0 : Dev nD) : Nat :=
  let c0_i32_4706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4705 : BitVec 32 := 1#32
  let v3425 : BitVec 32 := Scalar.muli v7 c1_i32_4705
  let v3426 : BitVec 32 := Scalar.addi c0_i32_4706 v3425
  v3426.toNat
def k0_dev141 (d0 : Dev nD) : Nat :=
  let c0_i32_4745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4744 : BitVec 32 := 1#32
  let v3455 : BitVec 32 := Scalar.muli v5 c1_i32_4744
  let v3456 : BitVec 32 := Scalar.addi c0_i32_4745 v3455
  v3456.toNat
def k0_dev142 (d0 : Dev nD) : Nat :=
  let c0_i32_4782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4781 : BitVec 32 := 1#32
  let v3477 : BitVec 32 := Scalar.muli v7 c1_i32_4781
  let v3478 : BitVec 32 := Scalar.addi c0_i32_4782 v3477
  v3478.toNat
def k0_dev143 (d0 : Dev nD) : Nat :=
  let c0_i32_4820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4819 : BitVec 32 := 1#32
  let v3506 : BitVec 32 := Scalar.muli v7 c1_i32_4819
  let v3507 : BitVec 32 := Scalar.addi c0_i32_4820 v3506
  v3507.toNat
def k0_dev144 (d0 : Dev nD) : Nat :=
  let c0_i32_4857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4856 : BitVec 32 := 1#32
  let v3528 : BitVec 32 := Scalar.muli v5 c1_i32_4856
  let v3529 : BitVec 32 := Scalar.addi c0_i32_4857 v3528
  v3529.toNat
def k0_dev145 (d0 : Dev nD) : Nat :=
  let c0_i32_4895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4894 : BitVec 32 := 1#32
  let v3557 : BitVec 32 := Scalar.muli v7 c1_i32_4894
  let v3558 : BitVec 32 := Scalar.addi c0_i32_4895 v3557
  v3558.toNat
def k0_dev146 (d0 : Dev nD) : Nat :=
  let c0_i32_4932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4931 : BitVec 32 := 1#32
  let v3579 : BitVec 32 := Scalar.muli v5 c1_i32_4931
  let v3580 : BitVec 32 := Scalar.addi c0_i32_4932 v3579
  v3580.toNat
def k0_dev147 (d0 : Dev nD) : Nat :=
  let c0_i32_4970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4969 : BitVec 32 := 1#32
  let v3609 : BitVec 32 := Scalar.muli v5 c1_i32_4969
  let v3610 : BitVec 32 := Scalar.addi c0_i32_4970 v3609
  v3610.toNat
def k0_dev148 (d0 : Dev nD) : Nat :=
  let c0_i32_5007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5006 : BitVec 32 := 1#32
  let v3631 : BitVec 32 := Scalar.muli v7 c1_i32_5006
  let v3632 : BitVec 32 := Scalar.addi c0_i32_5007 v3631
  v3632.toNat
def k0_dev149 (d0 : Dev nD) : Nat :=
  let c0_i32_5046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5045 : BitVec 32 := 1#32
  let v3661 : BitVec 32 := Scalar.muli v5 c1_i32_5045
  let v3662 : BitVec 32 := Scalar.addi c0_i32_5046 v3661
  v3662.toNat
def k0_dev150 (d0 : Dev nD) : Nat :=
  let c0_i32_5083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5082 : BitVec 32 := 1#32
  let v3683 : BitVec 32 := Scalar.muli v7 c1_i32_5082
  let v3684 : BitVec 32 := Scalar.addi c0_i32_5083 v3683
  v3684.toNat
def k0_dev151 (d0 : Dev nD) : Nat :=
  let c0_i32_5121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5120 : BitVec 32 := 1#32
  let v3712 : BitVec 32 := Scalar.muli v7 c1_i32_5120
  let v3713 : BitVec 32 := Scalar.addi c0_i32_5121 v3712
  v3713.toNat
def k0_dev152 (d0 : Dev nD) : Nat :=
  let c0_i32_5158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5157 : BitVec 32 := 1#32
  let v3734 : BitVec 32 := Scalar.muli v5 c1_i32_5157
  let v3735 : BitVec 32 := Scalar.addi c0_i32_5158 v3734
  v3735.toNat
def k0_dev153 (d0 : Dev nD) : Nat :=
  let c0_i32_5196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5195 : BitVec 32 := 1#32
  let v3763 : BitVec 32 := Scalar.muli v7 c1_i32_5195
  let v3764 : BitVec 32 := Scalar.addi c0_i32_5196 v3763
  v3764.toNat
def k0_dev154 (d0 : Dev nD) : Nat :=
  let c0_i32_5233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5232 : BitVec 32 := 1#32
  let v3785 : BitVec 32 := Scalar.muli v5 c1_i32_5232
  let v3786 : BitVec 32 := Scalar.addi c0_i32_5233 v3785
  v3786.toNat
def k0_dev155 (d0 : Dev nD) : Nat :=
  let c0_i32_5271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5270 : BitVec 32 := 1#32
  let v3815 : BitVec 32 := Scalar.muli v5 c1_i32_5270
  let v3816 : BitVec 32 := Scalar.addi c0_i32_5271 v3815
  v3816.toNat
def k0_dev156 (d0 : Dev nD) : Nat :=
  let c0_i32_5308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5307 : BitVec 32 := 1#32
  let v3837 : BitVec 32 := Scalar.muli v7 c1_i32_5307
  let v3838 : BitVec 32 := Scalar.addi c0_i32_5308 v3837
  v3838.toNat
def k0_dev157 (d0 : Dev nD) : Nat :=
  let c0_i32_5347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5346 : BitVec 32 := 1#32
  let v3867 : BitVec 32 := Scalar.muli v5 c1_i32_5346
  let v3868 : BitVec 32 := Scalar.addi c0_i32_5347 v3867
  v3868.toNat
def k0_dev158 (d0 : Dev nD) : Nat :=
  let c0_i32_5384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5383 : BitVec 32 := 1#32
  let v3889 : BitVec 32 := Scalar.muli v7 c1_i32_5383
  let v3890 : BitVec 32 := Scalar.addi c0_i32_5384 v3889
  v3890.toNat
def k0_dev159 (d0 : Dev nD) : Nat :=
  let c0_i32_5422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5421 : BitVec 32 := 1#32
  let v3918 : BitVec 32 := Scalar.muli v7 c1_i32_5421
  let v3919 : BitVec 32 := Scalar.addi c0_i32_5422 v3918
  v3919.toNat
def k0_dev160 (d0 : Dev nD) : Nat :=
  let c0_i32_5459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5458 : BitVec 32 := 1#32
  let v3940 : BitVec 32 := Scalar.muli v5 c1_i32_5458
  let v3941 : BitVec 32 := Scalar.addi c0_i32_5459 v3940
  v3941.toNat
def k0_dev161 (d0 : Dev nD) : Nat :=
  let c0_i32_5497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5496 : BitVec 32 := 1#32
  let v3969 : BitVec 32 := Scalar.muli v7 c1_i32_5496
  let v3970 : BitVec 32 := Scalar.addi c0_i32_5497 v3969
  v3970.toNat
def k0_dev162 (d0 : Dev nD) : Nat :=
  let c0_i32_5534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5533 : BitVec 32 := 1#32
  let v3991 : BitVec 32 := Scalar.muli v5 c1_i32_5533
  let v3992 : BitVec 32 := Scalar.addi c0_i32_5534 v3991
  v3992.toNat
def k0_dev163 (d0 : Dev nD) : Nat :=
  let c0_i32_5572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5571 : BitVec 32 := 1#32
  let v4021 : BitVec 32 := Scalar.muli v5 c1_i32_5571
  let v4022 : BitVec 32 := Scalar.addi c0_i32_5572 v4021
  v4022.toNat
def k0_dev164 (d0 : Dev nD) : Nat :=
  let c0_i32_5609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5608 : BitVec 32 := 1#32
  let v4043 : BitVec 32 := Scalar.muli v7 c1_i32_5608
  let v4044 : BitVec 32 := Scalar.addi c0_i32_5609 v4043
  v4044.toNat
def k0_dev165 (d0 : Dev nD) : Nat :=
  let c0_i32_5648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5647 : BitVec 32 := 1#32
  let v4073 : BitVec 32 := Scalar.muli v5 c1_i32_5647
  let v4074 : BitVec 32 := Scalar.addi c0_i32_5648 v4073
  v4074.toNat
def k0_dev166 (d0 : Dev nD) : Nat :=
  let c0_i32_5685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5684 : BitVec 32 := 1#32
  let v4095 : BitVec 32 := Scalar.muli v7 c1_i32_5684
  let v4096 : BitVec 32 := Scalar.addi c0_i32_5685 v4095
  v4096.toNat
def k0_dev167 (d0 : Dev nD) : Nat :=
  let c0_i32_5723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5722 : BitVec 32 := 1#32
  let v4124 : BitVec 32 := Scalar.muli v7 c1_i32_5722
  let v4125 : BitVec 32 := Scalar.addi c0_i32_5723 v4124
  v4125.toNat
def k0_dev168 (d0 : Dev nD) : Nat :=
  let c0_i32_5760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5759 : BitVec 32 := 1#32
  let v4146 : BitVec 32 := Scalar.muli v5 c1_i32_5759
  let v4147 : BitVec 32 := Scalar.addi c0_i32_5760 v4146
  v4147.toNat
def k0_dev169 (d0 : Dev nD) : Nat :=
  let c0_i32_5798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5797 : BitVec 32 := 1#32
  let v4175 : BitVec 32 := Scalar.muli v7 c1_i32_5797
  let v4176 : BitVec 32 := Scalar.addi c0_i32_5798 v4175
  v4176.toNat
def k0_dev170 (d0 : Dev nD) : Nat :=
  let c0_i32_5835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5834 : BitVec 32 := 1#32
  let v4197 : BitVec 32 := Scalar.muli v5 c1_i32_5834
  let v4198 : BitVec 32 := Scalar.addi c0_i32_5835 v4197
  v4198.toNat
def k0_dev171 (d0 : Dev nD) : Nat :=
  let c0_i32_5873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5872 : BitVec 32 := 1#32
  let v4227 : BitVec 32 := Scalar.muli v5 c1_i32_5872
  let v4228 : BitVec 32 := Scalar.addi c0_i32_5873 v4227
  v4228.toNat
def k0_dev172 (d0 : Dev nD) : Nat :=
  let c0_i32_5910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5909 : BitVec 32 := 1#32
  let v4249 : BitVec 32 := Scalar.muli v7 c1_i32_5909
  let v4250 : BitVec 32 := Scalar.addi c0_i32_5910 v4249
  v4250.toNat
def k0_dev173 (d0 : Dev nD) : Nat :=
  let c0_i32_5949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5948 : BitVec 32 := 1#32
  let v4279 : BitVec 32 := Scalar.muli v5 c1_i32_5948
  let v4280 : BitVec 32 := Scalar.addi c0_i32_5949 v4279
  v4280.toNat
def k0_dev174 (d0 : Dev nD) : Nat :=
  let c0_i32_5986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5985 : BitVec 32 := 1#32
  let v4301 : BitVec 32 := Scalar.muli v7 c1_i32_5985
  let v4302 : BitVec 32 := Scalar.addi c0_i32_5986 v4301
  v4302.toNat
def k0_dev175 (d0 : Dev nD) : Nat :=
  let c0_i32_6024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6023 : BitVec 32 := 1#32
  let v4330 : BitVec 32 := Scalar.muli v7 c1_i32_6023
  let v4331 : BitVec 32 := Scalar.addi c0_i32_6024 v4330
  v4331.toNat
def k0_dev176 (d0 : Dev nD) : Nat :=
  let c0_i32_6061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6060 : BitVec 32 := 1#32
  let v4352 : BitVec 32 := Scalar.muli v5 c1_i32_6060
  let v4353 : BitVec 32 := Scalar.addi c0_i32_6061 v4352
  v4353.toNat
def k0_dev177 (d0 : Dev nD) : Nat :=
  let c0_i32_6099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6098 : BitVec 32 := 1#32
  let v4381 : BitVec 32 := Scalar.muli v7 c1_i32_6098
  let v4382 : BitVec 32 := Scalar.addi c0_i32_6099 v4381
  v4382.toNat
def k0_dev178 (d0 : Dev nD) : Nat :=
  let c0_i32_6136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6135 : BitVec 32 := 1#32
  let v4403 : BitVec 32 := Scalar.muli v5 c1_i32_6135
  let v4404 : BitVec 32 := Scalar.addi c0_i32_6136 v4403
  v4404.toNat
def k0_dev179 (d0 : Dev nD) : Nat :=
  let c0_i32_6174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6173 : BitVec 32 := 1#32
  let v4433 : BitVec 32 := Scalar.muli v5 c1_i32_6173
  let v4434 : BitVec 32 := Scalar.addi c0_i32_6174 v4433
  v4434.toNat
def k0_dev180 (d0 : Dev nD) : Nat :=
  let c0_i32_6211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6210 : BitVec 32 := 1#32
  let v4455 : BitVec 32 := Scalar.muli v7 c1_i32_6210
  let v4456 : BitVec 32 := Scalar.addi c0_i32_6211 v4455
  v4456.toNat
def k0_dev181 (d0 : Dev nD) : Nat :=
  let c0_i32_6250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6249 : BitVec 32 := 1#32
  let v4485 : BitVec 32 := Scalar.muli v5 c1_i32_6249
  let v4486 : BitVec 32 := Scalar.addi c0_i32_6250 v4485
  v4486.toNat
def k0_dev182 (d0 : Dev nD) : Nat :=
  let c0_i32_6287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6286 : BitVec 32 := 1#32
  let v4507 : BitVec 32 := Scalar.muli v7 c1_i32_6286
  let v4508 : BitVec 32 := Scalar.addi c0_i32_6287 v4507
  v4508.toNat
def k0_dev183 (d0 : Dev nD) : Nat :=
  let c0_i32_6325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6324 : BitVec 32 := 1#32
  let v4536 : BitVec 32 := Scalar.muli v7 c1_i32_6324
  let v4537 : BitVec 32 := Scalar.addi c0_i32_6325 v4536
  v4537.toNat
def k0_dev184 (d0 : Dev nD) : Nat :=
  let c0_i32_6362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6361 : BitVec 32 := 1#32
  let v4558 : BitVec 32 := Scalar.muli v5 c1_i32_6361
  let v4559 : BitVec 32 := Scalar.addi c0_i32_6362 v4558
  v4559.toNat
def k0_dev185 (d0 : Dev nD) : Nat :=
  let c0_i32_6400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6399 : BitVec 32 := 1#32
  let v4587 : BitVec 32 := Scalar.muli v7 c1_i32_6399
  let v4588 : BitVec 32 := Scalar.addi c0_i32_6400 v4587
  v4588.toNat
def k0_dev186 (d0 : Dev nD) : Nat :=
  let c0_i32_6437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6436 : BitVec 32 := 1#32
  let v4609 : BitVec 32 := Scalar.muli v5 c1_i32_6436
  let v4610 : BitVec 32 := Scalar.addi c0_i32_6437 v4609
  v4610.toNat
def k0_dev187 (d0 : Dev nD) : Nat :=
  let c0_i32_6475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6474 : BitVec 32 := 1#32
  let v4639 : BitVec 32 := Scalar.muli v5 c1_i32_6474
  let v4640 : BitVec 32 := Scalar.addi c0_i32_6475 v4639
  v4640.toNat
def k0_dev188 (d0 : Dev nD) : Nat :=
  let c0_i32_6512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6511 : BitVec 32 := 1#32
  let v4661 : BitVec 32 := Scalar.muli v7 c1_i32_6511
  let v4662 : BitVec 32 := Scalar.addi c0_i32_6512 v4661
  v4662.toNat
def k0_dev189 (d0 : Dev nD) : Nat :=
  let c0_i32_6551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6550 : BitVec 32 := 1#32
  let v4691 : BitVec 32 := Scalar.muli v5 c1_i32_6550
  let v4692 : BitVec 32 := Scalar.addi c0_i32_6551 v4691
  v4692.toNat
def k0_dev190 (d0 : Dev nD) : Nat :=
  let c0_i32_6588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6587 : BitVec 32 := 1#32
  let v4713 : BitVec 32 := Scalar.muli v7 c1_i32_6587
  let v4714 : BitVec 32 := Scalar.addi c0_i32_6588 v4713
  v4714.toNat
def k0_dev191 (d0 : Dev nD) : Nat :=
  let c0_i32_6626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6625 : BitVec 32 := 1#32
  let v4742 : BitVec 32 := Scalar.muli v7 c1_i32_6625
  let v4743 : BitVec 32 := Scalar.addi c0_i32_6626 v4742
  v4743.toNat
def k0_dev192 (d0 : Dev nD) : Nat :=
  let c0_i32_6663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6662 : BitVec 32 := 1#32
  let v4764 : BitVec 32 := Scalar.muli v5 c1_i32_6662
  let v4765 : BitVec 32 := Scalar.addi c0_i32_6663 v4764
  v4765.toNat
def k0_dev193 (d0 : Dev nD) : Nat :=
  let c0_i32_6701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6700 : BitVec 32 := 1#32
  let v4793 : BitVec 32 := Scalar.muli v7 c1_i32_6700
  let v4794 : BitVec 32 := Scalar.addi c0_i32_6701 v4793
  v4794.toNat
def k0_dev194 (d0 : Dev nD) : Nat :=
  let c0_i32_6738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6737 : BitVec 32 := 1#32
  let v4815 : BitVec 32 := Scalar.muli v5 c1_i32_6737
  let v4816 : BitVec 32 := Scalar.addi c0_i32_6738 v4815
  v4816.toNat
def k0_dev195 (d0 : Dev nD) : Nat :=
  let c0_i32_6776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6775 : BitVec 32 := 1#32
  let v4845 : BitVec 32 := Scalar.muli v5 c1_i32_6775
  let v4846 : BitVec 32 := Scalar.addi c0_i32_6776 v4845
  v4846.toNat
def k0_dev196 (d0 : Dev nD) : Nat :=
  let c0_i32_6813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6812 : BitVec 32 := 1#32
  let v4867 : BitVec 32 := Scalar.muli v7 c1_i32_6812
  let v4868 : BitVec 32 := Scalar.addi c0_i32_6813 v4867
  v4868.toNat
def k0_dev197 (d0 : Dev nD) : Nat :=
  let c0_i32_6852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6851 : BitVec 32 := 1#32
  let v4897 : BitVec 32 := Scalar.muli v5 c1_i32_6851
  let v4898 : BitVec 32 := Scalar.addi c0_i32_6852 v4897
  v4898.toNat
def k0_dev198 (d0 : Dev nD) : Nat :=
  let c0_i32_6889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6888 : BitVec 32 := 1#32
  let v4919 : BitVec 32 := Scalar.muli v7 c1_i32_6888
  let v4920 : BitVec 32 := Scalar.addi c0_i32_6889 v4919
  v4920.toNat
def k0_dev199 (d0 : Dev nD) : Nat :=
  let c0_i32_6927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6926 : BitVec 32 := 1#32
  let v4948 : BitVec 32 := Scalar.muli v7 c1_i32_6926
  let v4949 : BitVec 32 := Scalar.addi c0_i32_6927 v4948
  v4949.toNat
def k0_dev200 (d0 : Dev nD) : Nat :=
  let c0_i32_6964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6963 : BitVec 32 := 1#32
  let v4970 : BitVec 32 := Scalar.muli v5 c1_i32_6963
  let v4971 : BitVec 32 := Scalar.addi c0_i32_6964 v4970
  v4971.toNat
def k0_dev201 (d0 : Dev nD) : Nat :=
  let c0_i32_7002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7001 : BitVec 32 := 1#32
  let v4999 : BitVec 32 := Scalar.muli v7 c1_i32_7001
  let v5000 : BitVec 32 := Scalar.addi c0_i32_7002 v4999
  v5000.toNat
def k0_dev202 (d0 : Dev nD) : Nat :=
  let c0_i32_7039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7038 : BitVec 32 := 1#32
  let v5021 : BitVec 32 := Scalar.muli v5 c1_i32_7038
  let v5022 : BitVec 32 := Scalar.addi c0_i32_7039 v5021
  v5022.toNat
def k0_dev203 (d0 : Dev nD) : Nat :=
  let c0_i32_7077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7076 : BitVec 32 := 1#32
  let v5051 : BitVec 32 := Scalar.muli v5 c1_i32_7076
  let v5052 : BitVec 32 := Scalar.addi c0_i32_7077 v5051
  v5052.toNat
def k0_dev204 (d0 : Dev nD) : Nat :=
  let c0_i32_7114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7113 : BitVec 32 := 1#32
  let v5073 : BitVec 32 := Scalar.muli v7 c1_i32_7113
  let v5074 : BitVec 32 := Scalar.addi c0_i32_7114 v5073
  v5074.toNat
def k0_dev205 (d0 : Dev nD) : Nat :=
  let c0_i32_7153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7152 : BitVec 32 := 1#32
  let v5103 : BitVec 32 := Scalar.muli v5 c1_i32_7152
  let v5104 : BitVec 32 := Scalar.addi c0_i32_7153 v5103
  v5104.toNat
def k0_dev206 (d0 : Dev nD) : Nat :=
  let c0_i32_7190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7189 : BitVec 32 := 1#32
  let v5125 : BitVec 32 := Scalar.muli v7 c1_i32_7189
  let v5126 : BitVec 32 := Scalar.addi c0_i32_7190 v5125
  v5126.toNat
def k0_dev207 (d0 : Dev nD) : Nat :=
  let c0_i32_7228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7227 : BitVec 32 := 1#32
  let v5154 : BitVec 32 := Scalar.muli v7 c1_i32_7227
  let v5155 : BitVec 32 := Scalar.addi c0_i32_7228 v5154
  v5155.toNat
def k0_dev208 (d0 : Dev nD) : Nat :=
  let c0_i32_7265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7264 : BitVec 32 := 1#32
  let v5176 : BitVec 32 := Scalar.muli v5 c1_i32_7264
  let v5177 : BitVec 32 := Scalar.addi c0_i32_7265 v5176
  v5177.toNat
def k0_dev209 (d0 : Dev nD) : Nat :=
  let c0_i32_7303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7302 : BitVec 32 := 1#32
  let v5205 : BitVec 32 := Scalar.muli v7 c1_i32_7302
  let v5206 : BitVec 32 := Scalar.addi c0_i32_7303 v5205
  v5206.toNat
def k0_dev210 (d0 : Dev nD) : Nat :=
  let c0_i32_7340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7339 : BitVec 32 := 1#32
  let v5227 : BitVec 32 := Scalar.muli v5 c1_i32_7339
  let v5228 : BitVec 32 := Scalar.addi c0_i32_7340 v5227
  v5228.toNat
def k0_dev211 (d0 : Dev nD) : Nat :=
  let c0_i32_7378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7377 : BitVec 32 := 1#32
  let v5257 : BitVec 32 := Scalar.muli v5 c1_i32_7377
  let v5258 : BitVec 32 := Scalar.addi c0_i32_7378 v5257
  v5258.toNat
def k0_dev212 (d0 : Dev nD) : Nat :=
  let c0_i32_7415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7414 : BitVec 32 := 1#32
  let v5279 : BitVec 32 := Scalar.muli v7 c1_i32_7414
  let v5280 : BitVec 32 := Scalar.addi c0_i32_7415 v5279
  v5280.toNat
def k0_dev213 (d0 : Dev nD) : Nat :=
  let c0_i32_7454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7453 : BitVec 32 := 1#32
  let v5309 : BitVec 32 := Scalar.muli v5 c1_i32_7453
  let v5310 : BitVec 32 := Scalar.addi c0_i32_7454 v5309
  v5310.toNat
def k0_dev214 (d0 : Dev nD) : Nat :=
  let c0_i32_7491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7490 : BitVec 32 := 1#32
  let v5331 : BitVec 32 := Scalar.muli v7 c1_i32_7490
  let v5332 : BitVec 32 := Scalar.addi c0_i32_7491 v5331
  v5332.toNat
def k0_dev215 (d0 : Dev nD) : Nat :=
  let c0_i32_7529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7528 : BitVec 32 := 1#32
  let v5360 : BitVec 32 := Scalar.muli v7 c1_i32_7528
  let v5361 : BitVec 32 := Scalar.addi c0_i32_7529 v5360
  v5361.toNat
def k0_dev216 (d0 : Dev nD) : Nat :=
  let c0_i32_7566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7565 : BitVec 32 := 1#32
  let v5382 : BitVec 32 := Scalar.muli v5 c1_i32_7565
  let v5383 : BitVec 32 := Scalar.addi c0_i32_7566 v5382
  v5383.toNat
def k0_dev217 (d0 : Dev nD) : Nat :=
  let c0_i32_7604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7603 : BitVec 32 := 1#32
  let v5411 : BitVec 32 := Scalar.muli v7 c1_i32_7603
  let v5412 : BitVec 32 := Scalar.addi c0_i32_7604 v5411
  v5412.toNat
def k0_dev218 (d0 : Dev nD) : Nat :=
  let c0_i32_7641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7640 : BitVec 32 := 1#32
  let v5433 : BitVec 32 := Scalar.muli v5 c1_i32_7640
  let v5434 : BitVec 32 := Scalar.addi c0_i32_7641 v5433
  v5434.toNat
def k0_dev219 (d0 : Dev nD) : Nat :=
  let c0_i32_7679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7678 : BitVec 32 := 1#32
  let v5463 : BitVec 32 := Scalar.muli v5 c1_i32_7678
  let v5464 : BitVec 32 := Scalar.addi c0_i32_7679 v5463
  v5464.toNat
def k0_dev220 (d0 : Dev nD) : Nat :=
  let c0_i32_7716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7715 : BitVec 32 := 1#32
  let v5485 : BitVec 32 := Scalar.muli v7 c1_i32_7715
  let v5486 : BitVec 32 := Scalar.addi c0_i32_7716 v5485
  v5486.toNat
def k0_dev221 (d0 : Dev nD) : Nat :=
  let c0_i32_7755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7754 : BitVec 32 := 1#32
  let v5515 : BitVec 32 := Scalar.muli v5 c1_i32_7754
  let v5516 : BitVec 32 := Scalar.addi c0_i32_7755 v5515
  v5516.toNat
def k0_dev222 (d0 : Dev nD) : Nat :=
  let c0_i32_7792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7791 : BitVec 32 := 1#32
  let v5537 : BitVec 32 := Scalar.muli v7 c1_i32_7791
  let v5538 : BitVec 32 := Scalar.addi c0_i32_7792 v5537
  v5538.toNat
def k0_dev223 (d0 : Dev nD) : Nat :=
  let c0_i32_7830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7829 : BitVec 32 := 1#32
  let v5566 : BitVec 32 := Scalar.muli v7 c1_i32_7829
  let v5567 : BitVec 32 := Scalar.addi c0_i32_7830 v5566
  v5567.toNat
def k0_dev224 (d0 : Dev nD) : Nat :=
  let c0_i32_7867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7866 : BitVec 32 := 1#32
  let v5588 : BitVec 32 := Scalar.muli v5 c1_i32_7866
  let v5589 : BitVec 32 := Scalar.addi c0_i32_7867 v5588
  v5589.toNat
def k0_dev225 (d0 : Dev nD) : Nat :=
  let c0_i32_7905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7904 : BitVec 32 := 1#32
  let v5617 : BitVec 32 := Scalar.muli v7 c1_i32_7904
  let v5618 : BitVec 32 := Scalar.addi c0_i32_7905 v5617
  v5618.toNat
def k0_dev226 (d0 : Dev nD) : Nat :=
  let c0_i32_7942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7941 : BitVec 32 := 1#32
  let v5639 : BitVec 32 := Scalar.muli v5 c1_i32_7941
  let v5640 : BitVec 32 := Scalar.addi c0_i32_7942 v5639
  v5640.toNat
def k0_dev227 (d0 : Dev nD) : Nat :=
  let c0_i32_7980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7979 : BitVec 32 := 1#32
  let v5669 : BitVec 32 := Scalar.muli v5 c1_i32_7979
  let v5670 : BitVec 32 := Scalar.addi c0_i32_7980 v5669
  v5670.toNat
def k0_dev228 (d0 : Dev nD) : Nat :=
  let c0_i32_8017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8016 : BitVec 32 := 1#32
  let v5691 : BitVec 32 := Scalar.muli v7 c1_i32_8016
  let v5692 : BitVec 32 := Scalar.addi c0_i32_8017 v5691
  v5692.toNat
def k0_dev229 (d0 : Dev nD) : Nat :=
  let c0_i32_8056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8055 : BitVec 32 := 1#32
  let v5721 : BitVec 32 := Scalar.muli v5 c1_i32_8055
  let v5722 : BitVec 32 := Scalar.addi c0_i32_8056 v5721
  v5722.toNat
def k0_dev230 (d0 : Dev nD) : Nat :=
  let c0_i32_8093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8092 : BitVec 32 := 1#32
  let v5743 : BitVec 32 := Scalar.muli v7 c1_i32_8092
  let v5744 : BitVec 32 := Scalar.addi c0_i32_8093 v5743
  v5744.toNat
def k0_dev231 (d0 : Dev nD) : Nat :=
  let c0_i32_8131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8130 : BitVec 32 := 1#32
  let v5772 : BitVec 32 := Scalar.muli v7 c1_i32_8130
  let v5773 : BitVec 32 := Scalar.addi c0_i32_8131 v5772
  v5773.toNat
def k0_dev232 (d0 : Dev nD) : Nat :=
  let c0_i32_8168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8167 : BitVec 32 := 1#32
  let v5794 : BitVec 32 := Scalar.muli v5 c1_i32_8167
  let v5795 : BitVec 32 := Scalar.addi c0_i32_8168 v5794
  v5795.toNat
def k0_dev233 (d0 : Dev nD) : Nat :=
  let c0_i32_8206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8205 : BitVec 32 := 1#32
  let v5823 : BitVec 32 := Scalar.muli v7 c1_i32_8205
  let v5824 : BitVec 32 := Scalar.addi c0_i32_8206 v5823
  v5824.toNat
def k0_dev234 (d0 : Dev nD) : Nat :=
  let c0_i32_8243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8242 : BitVec 32 := 1#32
  let v5845 : BitVec 32 := Scalar.muli v5 c1_i32_8242
  let v5846 : BitVec 32 := Scalar.addi c0_i32_8243 v5845
  v5846.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Lanes.lean ====
/-
The kernel's body as a program over its four lanes: the printed body is 1200 operations in a row, the same few for every
lane and every step of the ring. Here each kind of step is one definition, at any lane, slot and step, and
`body_eq` says that the printed body is these definitions run in order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-- The kernel body's programs. -/
abbrev BProg (F : FTy → Type) [FloatOps F] := Prog (TpuEff nD τ sig (Elt F) Λ₀ .tc) PUnit

/-! ## Buffers, slots, semaphores -/

abbrev xm : Memref sig .tc .vmem S4096x256 .bf16 := Memref.whole cc0_stg0_0
abbrev wm : Memref sig .tc .vmem S256x2048 .bf16 := Memref.whole cc0_stg1_0
abbrev om : Memref sig .tc .hbm S4096x2048 .f32 := Memref.whole main_v1
abbrev xb : Memref sig .tc .vmem S4096x256 .bf16 := Memref.whole cc0_scratch0
abbrev wb : Memref sig .tc .vmem S256x2048 .bf16 := Memref.whole cc0_scratch1
abbrev sb : Memref sig .tc .vmem S4x2x64x2048 .bf16 := Memref.whole cc0_scratch2
abbrev rb : Memref sig .tc .vmem S4x2x64x2048 .bf16 := Memref.whole cc0_scratch3
abbrev sg : Memref sig .tc .vmem S4x2x64x2048 .f32 := Memref.whole cc0_scratch4

/-- The parity slot of step `t`. -/
def par (t : ℕ) : Fin 2 := ⟨t % 2, Nat.mod_lt _ (by decide)⟩

theorem slot_inb : ∀ (l : Fin 4) (s : Fin 2), ∀ a, (![l.val, s.val, 0, 0] : Fin 4 → Nat) a + S1x1x64x2048.size a ≤ S4x2x64x2048.size a := by decide
theorem pair_inb : ∀ (l : Fin 4) (s : Fin 2), ∀ a, (![l.val, s.val] : Fin 2 → Nat) a + S1x1.size a ≤ S4x2.size a := by decide
theorem lane_inb : ∀ (l : Fin 4), ∀ a, (![l.val] : Fin 1 → Nat) a + S1.size a ≤ S4.size a := by decide

/-- Lane `l`'s slot `s` of a four-by-two buffer, as a rectangle. -/
abbrev slotR (l : Fin 4) (s : Fin 2) : Rect S4x2x64x2048 :=
  Rect.unit (s := S4x2x64x2048) ![l.val, s.val, 0, 0] S1x1x64x2048.size (slot_inb l s)

theorem slot_words : ∀ (l : Fin 4) (s : Fin 2), (slotR l s).WholeWords (EltTy.packing .bf16) := by decide
theorem slot_packed : ∀ (l : Fin 4) (s : Fin 2), (slotR l s).PackedRows (EltTy.packing .bf16) := by decide

/-- Lane `l`'s slot `s` of a four-by-two buffer, as the matrix a copy names. -/
abbrev slot {e : EltTy} (b : Memref sig .tc .vmem S4x2x64x2048 e) (l : Fin 4) (s : Fin 2) : Memref sig .tc .vmem S64x2048 e :=
  (b.slice (slotR l s) (fun _ => rfl)).squeeze S64x2048 squeezes_S1x1x64x2048_S64x2048

theorem sb_words (l : Fin 4) (s : Fin 2) : (slot sb l s).view.WordExact :=
  ((Memref.isWhole_whole (sig := sig) cc0_scratch2).wordExact_slice rfl _ (slot_words l s)).reshape _ _
theorem rb_words (l : Fin 4) (s : Fin 2) : (slot rb l s).view.WordExact :=
  ((Memref.isWhole_whole (sig := sig) cc0_scratch3).wordExact_slice rfl _ (slot_words l s)).reshape _ _

/-- Lane `l`'s semaphore for slot `s` in a four-by-two array. -/
abbrev dsem (a : DmaSems sig S4x2) (l : Fin 4) (s : Fin 2) : DmaSem sig :=
  ((a.slice (Rect.unit (s := S4x2) ![l.val, s.val] S1x1.size (pair_inb l s))).squeeze S_ squeezes_S1x1_S_).sem
/-- Lane `l`'s credit semaphore. -/
abbrev csem (l : Fin 4) : Sem sig :=
  ((cc0_scratch8.slice (Rect.unit (s := S4) ![l.val] S1.size (lane_inb l))).squeeze S_ squeezes_S1_S_).sem
/-- The runtime's barrier semaphore. -/
abbrev bsem : Sem sig := (SemArray.scalar (sig.barrier 0 rfl) : Sems sig S_).sem

/-! ## Devices and rows -/

/-- The device on the left, as the program computes it. -/
abbrev lf (c : Dev nD) : Dev nD := ⟨k0_dev1 c, k0_dev1_lt c⟩
/-- The device on the right, as the program computes it. -/
abbrev rt (c : Dev nD) : Dev nD := ⟨k0_dev2 c, k0_dev2_lt c⟩
/-- Where lane `l` sends: lanes 0 and 1 to the right, lanes 2 and 3 to the left. -/
def dn (c : Dev nD) (l : Fin 4) : Dev nD := if l.val < 2 then rt c else lf c
/-- Where lane `l` receives from. -/
def up (c : Dev nD) (l : Fin 4) : Dev nD := if l.val < 2 then lf c else rt c

/-- The first row of the input that lane `l` multiplies for step `t`. -/
def xoff (c : Dev nD) (t : Fin 15) (l : Fin 4) : Fin 2 → Nat :=
  if l.val < 2 then k0_off2 c (BitVec.ofNat 32 t.val) (BitVec.ofNat 32 (64 * l.val))
  else k0_off3 c (BitVec.ofNat 32 t.val) (BitVec.ofNat 32 (64 * l.val))
theorem xoff_inb (c : Dev nD) (t : Fin 15) (l : Fin 4) : ∀ a, xoff c t l a + S64x256.size a ≤ S4096x256.size a := by
  match l with
  | 0 => exact k0_off2_inb c t 0
  | 1 => exact k0_off2_inb c t 1
  | 2 => exact k0_off3_inb c t 0
  | 3 => exact k0_off3_inb c t 1

/-- The first row of the result that lane `l` writes at step `14 + j`. -/
def ooff (c : Dev nD) (j : Fin 16) (l : Fin 4) : Fin 2 → Nat :=
  if l.val < 2 then k0_off4 c (BitVec.ofNat 32 (14 + j.val)) (BitVec.ofNat 32 (64 * l.val))
  else k0_off5 c (BitVec.ofNat 32 (14 + j.val)) (BitVec.ofNat 32 (64 * l.val))
theorem ooff_inb (c : Dev nD) (j : Fin 16) (l : Fin 4) : ∀ a, ooff c j l a + S64x2048.size a ≤ S4096x2048.size a := by
  match l with
  | 0 => exact k0_off4_inb c j 0
  | 1 => exact k0_off4_inb c j 1
  | 2 => exact k0_off5_inb c j 0
  | 3 => exact k0_off5_inb c j 1

/-- The rows of the result that lane `l` writes at step `14 + j`. -/
abbrev orow (c : Dev nD) (j : Fin 16) (l : Fin 4) : Memref sig .tc .hbm S64x2048 .f32 :=
  om.slice (Rect.unit (s := S4096x2048) (ooff c j l) S64x2048.size (ooff_inb c j l)) (fun _ => rfl)

/-! ## Values -/

/-- One device's product of 64 rows. -/
def part (a : Vec F S64x256 .bf16) (b : Vec F S256x2048 .bf16) : FVec F S64x2048 .f32 :=
  matmul dot_S64x256_S256x2048_S64x2048_1_0_0_1_n_n none a b (constant S64x2048 .f32 0x00000000#32)
/-- A product, rounded, as a slot's contents. -/
def toSlot (v : FVec F S64x2048 .f32) : FVec F S1x1x64x2048 .bf16 :=
  shapeCast S1x1x64x2048 (truncf .bf16 v bitsLt_bf16_f32) shapeCasts_S64x2048_S1x1x64x2048
/-- A matrix as a staging slot's contents. -/
def toStage (v : FVec F S64x2048 .f32) : FVec F S1x1x64x2048 .f32 :=
  shapeCast S1x1x64x2048 v shapeCasts_S64x2048_S1x1x64x2048
/-- What arrived in a slot, widened. -/
def ofSlot (g : Vec F S1x1x64x2048 .bf16) : FVec F S64x2048 .f32 :=
  extf .f32 (shapeCast S64x2048 g shapeCasts_S1x1x64x2048_S64x2048) bitsLt_bf16_f32
/-- The activation. -/
def act (v : FVec F S64x2048 .f32) : FVec F S64x2048 .f32 := mulf v (logistic v)

/-! ## The pieces of a step -/

/-- The buffer the transfer of step `t` reads: the send buffer up to step 15, then the slot that arrived before. -/
def src (t : ℕ) (l : Fin 4) : Memref sig .tc .vmem S64x2048 .bf16 := if t < 16 then slot sb l (par t) else slot rb l (par (t + 1))
theorem src_words (t : ℕ) (l : Fin 4) : (src t l).view.WordExact := by
  unfold src; split
  · exact sb_words l _
  · exact rb_words l _

/-- Start the transfer of step `t`. -/
def sendDma (c : Dev nD) (t : ℕ) (l : Fin 4) (k : BProg F) : BProg F :=
  .op (.enqueueDma (src t l) (.remote (Dev.tc (dn c l)) (slot rb l (par t)) (.dma (dsem cc0_scratch5 l (par t)))) (.dma (dsem cc0_scratch6 l (par t)))
    (src_words t l) (rb_words l (par t)) ⟨⟨rfl, Or.inl rfl⟩, trivial⟩) fun _ => k
/-- Wait for the credit that the receiver's slot is free, then start the transfer; the first two need no credit. -/
def launch (c : Dev nD) (t : ℕ) (l : Fin 4) (k : BProg F) : BProg F :=
  if t < 2 then sendDma c t l k else .op (.semWait (csem l) (1#32).toInt) fun _ => sendDma c t l k
/-- Wait until the transfer of step `t` has read its buffer. -/
def waitSend (t : ℕ) (l : Fin 4) (k : BProg F) : BProg F :=
  .op (.waitDma2 (dsem cc0_scratch5 l (par t)) (slot rb l (par t)) (src t l) (rb_words l (par t)) (src_words t l)) fun _ => k
/-- Wait until the neighbour's transfer of step `t` has arrived. -/
def waitRecv (t : ℕ) (l : Fin 4) (k : BProg F) : BProg F :=
  .op (.waitDma2 (dsem cc0_scratch6 l (par t)) (src t l) (slot rb l (par t)) (src_words t l) (rb_words l (par t))) fun _ => k
/-- Tell the sender that a slot is free. -/
def credit (c : Dev nD) (l : Fin 4) (k : BProg F) : BProg F :=
  .op (.semSignal (up c l, .tc) (csem l) (1#32).toInt) fun _ => k
/-- Read slot `s` of the receive buffer. -/
def loadRb (l : Fin 4) (s : Fin 2) (k : Vec F S1x1x64x2048 .bf16 → BProg F) : BProg F :=
  .op (.load rb (slotR l s).toLoadRect (View.loadsAt_vmem h_S1x1x64x2048)) k
/-- Write slot `s` of the send buffer. -/
def storeSb (l : Fin 4) (s : Fin 2) (v : FVec F S1x1x64x2048 .bf16) (k : BProg F) : BProg F :=
  .op (.load sb (slotR l s).toLoadRect (View.loadsAt_vmem h_S1x1x64x2048)) fun _ =>
  .op (.store sb (slotR l s) v Finset.univ (View.stores_vmem h_S1x1x64x2048 ((Memref.isWhole_whole (sig := sig) cc0_scratch2).storeExact_slice rfl _ (slot_packed l s)) (fun _ => rfl)) (.inl rfl)) fun _ => k
/-- Write slot `s` of the staging buffer. -/
def storeSg (l : Fin 4) (s : Fin 2) (v : FVec F S1x1x64x2048 .f32) (k : BProg F) : BProg F :=
  .op (.load sg (slotR l s).toLoadRect (View.loadsAt_vmem h_S1x1x64x2048)) fun _ =>
  .op (.store sg (slotR l s) v Finset.univ (View.stores_vmem_bits_univ h_S1x1x64x2048 rfl) (.inl rfl)) fun _ => k
/-- Copy the staged rows of step `14 + j` to the result. -/
def outCopy (c : Dev nD) (j : Fin 16) (l : Fin 4) (k : BProg F) : BProg F :=
  .op (.enqueueDma (slot sg l (par j.val)) (.here (orow c j l)) (.dma (dsem cc0_scratch7 l (par j.val)))
    ((View.wordExact_bits rfl).reshape _ _) (View.wordExact_bits rfl) ⟨Or.inl rfl, trivial⟩) fun _ => k
/-- Wait for the copy of step `14 + j`. -/
def waitOut (c : Dev nD) (j : Fin 16) (l : Fin 4) (k : BProg F) : BProg F :=
  .op (.waitDma2 (dsem cc0_scratch7 l (par j.val)) (slot sg l (par j.val)) (orow c j l) ((View.wordExact_bits rfl).reshape _ _) (View.wordExact_bits rfl)) fun _ => k

/-! ## A lane's step -/

/-- Lane `l`'s step `t`: wait for both ends, combine or pass on, start the next transfer. -/
def laneStep (c : Dev nD) (t : ℕ) (ht : t < 30) (l : Fin 4) (nx : FVec F S64x2048 .f32) (k : BProg F) : BProg F :=
  waitSend t l <| waitRecv t l <|
    if h : t < 14 then
      loadRb l (par t) fun g => storeSb l (par (t + 1)) (toSlot (addf nx (ofSlot g))) <| credit c l <| launch c (t + 1) l k
    else if t = 14 then
      loadRb l (par t) fun g => storeSb l (par (t + 1)) (toSlot (act (addf nx (ofSlot g)))) <|
        storeSg l (par (t - 14)) (toStage (act (addf nx (ofSlot g)))) <| outCopy c ⟨t - 14, by omega⟩ l <| credit c l <| launch c (t + 1) l k
    else if t = 15 then
      loadRb l (par t) fun g => storeSg l (par (t - 14)) (toStage (ofSlot g)) <| outCopy c ⟨t - 14, by omega⟩ l <| launch c (t + 1) l k
    else if t < 29 then
      credit c l <| loadRb l (par t) fun g => waitOut c ⟨t - 16, by omega⟩ l <|
        storeSg l (par (t - 14)) (toStage (ofSlot g)) <| outCopy c ⟨t - 14, by omega⟩ l <| launch c (t + 1) l k
    else
      loadRb l (par t) fun g => waitOut c ⟨t - 16, by omega⟩ l <|
        storeSg l (par (t - 14)) (toStage (ofSlot g)) <| outCopy c ⟨t - 14, by omega⟩ l k

/-- Read the rows a lane multiplies and the weights, and go on with their product. -/
def product (off : Fin 2 → Nat) (h : ∀ a, off a + S64x256.size a ≤ S4096x256.size a) (k : FVec F S64x2048 .f32 → BProg F) : BProg F :=
  .op (.load xb (Rect.unit (s := S4096x256) off S64x256.size h).toLoadRect (View.loadsAt_vmem h_S64x256)) fun a =>
  .op (.load wb (Rect.unit (s := S256x2048) ![0, 0] S256x2048.size inb_S256x2048_S256x2048_0_0).toLoadRect (View.loadsAt_vmem h_S256x2048)) fun b => k (part a b)

/-- The four lanes' products for step `t`. -/
def products (c : Dev nD) (t : Fin 15) (k : (Fin 4 → FVec F S64x2048 .f32) → BProg F) : BProg F :=
  product (xoff c t 0) (xoff_inb c t 0) fun v0 => product (xoff c t 1) (xoff_inb c t 1) fun v1 =>
  product (xoff c t 2) (xoff_inb c t 2) fun v2 => product (xoff c t 3) (xoff_inb c t 3) fun v3 => k ![v0, v1, v2, v3]

/-- Step `t` of the four lanes. -/
def row (c : Dev nD) (t : ℕ) (ht : t < 30) (nx : Fin 4 → FVec F S64x2048 .f32) (k : BProg F) : BProg F :=
  laneStep c t ht 0 (nx 0) <| laneStep c t ht 1 (nx 1) <| laneStep c t ht 2 (nx 2) <| laneStep c t ht 3 (nx 3) k

/-- The last `n` steps of the ring, then `k`. -/
def steps (c : Dev nD) (k : BProg F) : (n : ℕ) → n ≤ 30 → (Fin 4 → FVec F S64x2048 .f32) → BProg F
  | 0, _, _ => k
  | n + 1, h, nx => row c (30 - (n + 1)) (by omega) nx <|
      if h' : 30 - n < 15 then products c ⟨30 - n, h'⟩ fun nx' => steps c k n (by omega) nx' else steps c k n (by omega) nx

/-- The waits for the last two copies of every lane. -/
def drain (c : Dev nD) (j : Fin 16) (k : BProg F) : BProg F :=
  waitOut c j 0 <| waitOut c j 1 <| waitOut c j 2 <| waitOut c j 3 k

/-- The first product of lane `l`: the device's own chunk. -/
def seed (c : Dev nD) (l : Fin 4) (k : BProg F) : BProg F :=
  product (k0_off1 c (BitVec.ofNat 32 (64 * l.val))) (k0_off1_inb c l) fun v => storeSb l 0 (toSlot v) k

/-- Copy the two arguments' blocks to the scratch they are multiplied from. -/
def stash (k : BProg F) : BProg F :=
  .op (.load xm (Rect.unit (s := S4096x256) ![0, 0] S4096x256.size inb_S4096x256_S4096x256_0_0).toLoadRect (View.loadsAt_vmem h_S4096x256)) fun x =>
  .op (.load xb (Rect.unit (s := S4096x256) ![0, 0] S4096x256.size inb_S4096x256_S4096x256_0_0).toLoadRect (View.loadsAt_vmem h_S4096x256)) fun _ =>
  .op (.store xb (Rect.unit (s := S4096x256) ![0, 0] S4096x256.size inb_S4096x256_S4096x256_0_0) (k0_pay1 x) Finset.univ
    (View.stores_vmem h_S4096x256 ((Memref.isWhole_whole (sig := sig) cc0_scratch0).storeExact_slice rfl _ packedbf16_S4096x256_S4096x256_0_0) (fun _ => rfl)) (.inl rfl)) fun _ =>
  .op (.load wm (Rect.unit (s := S256x2048) ![0, 0] S256x2048.size inb_S256x2048_S256x2048_0_0).toLoadRect (View.loadsAt_vmem h_S256x2048)) fun w =>
  .op (.load wb (Rect.unit (s := S256x2048) ![0, 0] S256x2048.size inb_S256x2048_S256x2048_0_0).toLoadRect (View.loadsAt_vmem h_S256x2048)) fun _ =>
  .op (.store wb (Rect.unit (s := S256x2048) ![0, 0] S256x2048.size inb_S256x2048_S256x2048_0_0) (k0_pay2 w) Finset.univ
    (View.stores_vmem h_S256x2048 ((Memref.isWhole_whole (sig := sig) cc0_scratch1).storeExact_slice rfl _ packedbf16_S256x2048_S256x2048_0_0) (fun _ => rfl)) (.inl rfl)) fun _ => k

/-- The handshake with both neighbours. -/
def handshake (c : Dev nD) (k : BProg F) : BProg F :=
  .op (.semSignal (lf c, .tc) bsem (1#32).toInt) fun _ => .op (.semSignal (rt c, .tc) bsem (1#32).toInt) fun _ => .op (.semWait bsem (2#32).toInt) fun _ => k

/-- Everything device `c` does. -/
def laneProg (c : Dev nD) : BProg F :=
  handshake c <| stash <| seed c 0 <| seed c 1 <| seed c 2 <| seed c 3 <|
  launch c 0 0 <| launch c 0 1 <| launch c 0 2 <| launch c 0 3 <|
  products c 0 fun nx => steps c (drain c 14 <| drain c 15 <| Prog.ret ⟨⟩) 30 le_rfl nx

set_option maxRecDepth 100000 in
set_option maxHeartbeats 4000000 in
/-- The printed body is the lane program. -/
theorem body_eq : (bodyAt0 t0_0 : BProg F) = .op .deviceId fun c => laneProg c := by
  chain_rfl

end Cert.RingProof

end
-- ==== Proof.Protocol.lean ====
/-
The ring's protocol: what every transfer carries, which semaphore counts it, what its arrival hands over, who owes it
and in which order it may be waited for.

A device has 29 semaphores in the protocol: the runtime's barrier; and per lane two for its transfers' departures,
two for the arrivals from upstream, two for its copies to the result, and one for the credits from downstream.
-/
module

public import proofs.«01_k».proof.Proof.Lanes
public import Idealize.ShloMosaic.Lib.Pipeline.Launch
public import Idealize.ShloMosaic.Lib.Pipeline.Kit
public import Idealize.ShloMosaic.Lib.Pipeline.Value
public import Idealize.ShloMosaic.Lib.Writes
public import Idealize.ShloMosaic.Lib.Release
public import Idealize.ShloMosaic.Lib.ViewIndex

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A receive slot: its device, lane and number. -/
abbrev SK : Type := Dev nD × Fin 4 × Fin 2
abbrev UB : Type := URounds (GSem nD τ sig) ℕ
abbrev US : Type := Release.USlots SK
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-! ## The ring -/

theorem lf_rt (c : Dev nD) : lf (rt c) = c := by revert c; decide +kernel
theorem rt_lf (c : Dev nD) : rt (lf c) = c := by revert c; decide +kernel
theorem dn_up (c : Dev nD) (l : Fin 4) : dn (up c l) l = c := by
  unfold dn up; split
  · exact rt_lf c
  · exact lf_rt c
theorem up_dn (c : Dev nD) (l : Fin 4) : up (dn c l) l = c := by
  unfold dn up; split
  · exact lf_rt c
  · exact rt_lf c

/-! ## The cells -/

/-- The kinds of a lane's semaphores. -/
inductive Kd where
  | send (s : Fin 2)
  | recv (s : Fin 2)
  | st (s : Fin 2)
  | cred
  deriving DecidableEq

/-- All kinds, in the order the proof lists them. -/
def Kd.all : List Kd := [.send 0, .send 1, .recv 0, .recv 1, .st 0, .st 1, .cred]

instance : Fintype Kd := ⟨Kd.all.toFinset, fun x => by
  match x with
  | .send 0 => decide
  | .send 1 => decide
  | .recv 0 => decide
  | .recv 1 => decide
  | .st 0 => decide
  | .st 1 => decide
  | .cred => decide⟩

/-- The lanes' semaphores: the kernel's own. -/
abbrev osem (x : Fin 4 × Kd) : SemLoc sig :=
  match x.2 with
  | .send s => .dma (dsem cc0_scratch5 x.1 s)
  | .recv s => .dma (dsem cc0_scratch6 x.1 s)
  | .st s => .dma (dsem cc0_scratch7 x.1 s)
  | .cred => .reg (csem x.1)

/-- A device's semaphores in the protocol. -/
abbrev CK : Type := Option (Fin 4 × Kd)
abbrev asem (x : CK) : SemLoc sig :=
  match x with
  | none => .reg bsem
  | some y => osem y

abbrev kcell (y : Dev nD × CK) : GSem nD τ sig := ((y.1 : Thread nD τ), asem y.2)

abbrev barC (c : Dev nD) : GSem nD τ sig := ((c : Thread nD τ), .reg bsem)
abbrev sendC (c : Dev nD) (l : Fin 4) (s : Fin 2) : GSem nD τ sig := ((c : Thread nD τ), .dma (dsem cc0_scratch5 l s))
abbrev recvC (c : Dev nD) (l : Fin 4) (s : Fin 2) : GSem nD τ sig := ((c : Thread nD τ), .dma (dsem cc0_scratch6 l s))
abbrev stC (c : Dev nD) (l : Fin 4) (s : Fin 2) : GSem nD τ sig := ((c : Thread nD τ), .dma (dsem cc0_scratch7 l s))
abbrev credC (c : Dev nD) (l : Fin 4) : GSem nD τ sig := ((c : Thread nD τ), .reg (csem l))

theorem ownSemFacts : Pipeline.OwnSemFacts cfg0.spec osem := by decide +kernel

theorem asem_injective : Function.Injective asem := by
  intro x y h
  match x, y with
  | none, none => rfl
  | none, some y => exact absurd (congrArg (fun s : SemLoc sig => s.isScoped .tc) h) (by rw [show asem (some y) = osem y from rfl, ownSemFacts.isScoped y]; decide +kernel)
  | some x, none => exact absurd (congrArg (fun s : SemLoc sig => s.isScoped .tc) h) (by rw [show asem (some x) = osem x from rfl, ownSemFacts.isScoped x]; decide +kernel)
  | some x, some y => exact congrArg some (ownSemFacts.inj h)

theorem kcell_injective : Function.Injective kcell := by
  rintro ⟨c, x⟩ ⟨c', x'⟩ h
  have h1 : c = c' := congrArg (fun g : GSem nD τ sig => g.1.1) h
  have h2 : x = x' := asem_injective (congrArg Prod.snd h)
  rw [h1, h2]

/-- The credit of one transfer between devices, and of one copy to the result. -/
def NT : ℕ := (slot rb 0 0).view.dmaCredit
def NO : ℕ := (orow 0 0 0).view.dmaCredit
theorem NT_pos : 0 < NT := View.dmaCredit_pos _ (by decide)
theorem NO_pos : 0 < NO := View.dmaCredit_pos _ (by decide)

/-! ## Assertions about a memref's elements -/

section Assertions
variable {sp : Space} {s : Shape} {e : EltTy}

/-- Device `c` holds the elements under `M`, whatever they are. -/
def any (M : Memref sig .tc sp s e) (c : Dev nD) : sProp 𝕄 :=
  iprop(∃ f : Buf (Elt F) (M.view.loc (c : Thread nD τ)), M.view.loc (c : Thread nD τ) ↦[M.view.set]{fullShare} f)
/-- Device `c` holds the elements under `M`, and they read as `v`. -/
def has (M : Memref sig .tc sp s e) (c : Dev nD) (v : s.Idx → Elt F e) : sProp 𝕄 :=
  iprop(∃ f : Buf (Elt F) (M.view.loc (c : Thread nD τ)), ⌜M.view.read (Elt F) f = v⌝ ∗ M.view.loc (c : Thread nD τ) ↦[M.view.set]{fullShare} f)

instance any_storable (M : Memref sig .tc sp s e) (c : Dev nD) : BI.Storable (upEmb : UEmb _ 𝕄) (any (F := F) M c) := by
  unfold any; infer_instance
instance has_storable (M : Memref sig .tc sp s e) (c : Dev nD) (v : s.Idx → Elt F e) : BI.Storable (upEmb : UEmb _ 𝕄) (has M c v) := by
  unfold has; infer_instance

theorem has_any (M : Memref sig .tc sp s e) (c : Dev nD) (v : s.Idx → Elt F e) : has M c v ⊢ any (F := F) M c := by
  unfold has any
  iintro ⟨%f, -, H⟩
  iexists f; iexact H
end Assertions

/-! ## What the transfers carry -/

variable (m : (ℓ : Loc nD τ sig) → Buf (Elt F) ℓ)

/-- Device `c`'s blocks of the arguments as the body receives them, and the scratch copies it multiplies from. -/
def xstg (c : Dev nD) : (cc0_stg0_0 : Ref sig .tc).ty.Contents (Elt F) := (win0_0.blk (0 : Fin 1)).view.read (Elt F) (m ((c : Thread nD τ).loc main_arg0))
def wstg (c : Dev nD) : (cc0_stg1_0 : Ref sig .tc).ty.Contents (Elt F) := (win0_1.blk (0 : Fin 1)).view.read (Elt F) (m ((c : Thread nD τ).loc main_arg1))
def xbuf (c : Dev nD) : (cc0_scratch0 : Ref sig .tc).ty.Contents (Elt F) := k0_pay1 (xstg m c)
def wbuf (c : Dev nD) : (cc0_scratch1 : Ref sig .tc).ty.Contents (Elt F) := k0_pay2 (wstg m c)

/-- The product of the 64 rows at `off` of device `c`'s block. -/
def prodAt (c : Dev nD) (off : Fin 2 → Nat) (h : ∀ a, off a + S64x256.size a ≤ S4096x256.size a) : FVec F S64x2048 .f32 :=
  part (xb.view.readAt (Elt F) (Rect.unit (s := S4096x256) off S64x256.size h).toLoadRect (xbuf m c))
    (wb.view.readAt (Elt F) (Rect.unit (s := S256x2048) ![0, 0] S256x2048.size inb_S256x2048_S256x2048_0_0).toLoadRect (wbuf m c))
def ownV (c : Dev nD) (l : Fin 4) : FVec F S64x2048 .f32 := prodAt m c (k0_off1 c (BitVec.ofNat 32 (64 * l.val))) (k0_off1_inb c l)
def partV (c : Dev nD) (t : Fin 15) (l : Fin 4) : FVec F S64x2048 .f32 := prodAt m c (xoff c t l) (xoff_inb c t l)

/-- A received matrix, widened. -/
def wide (g : FVec F S64x2048 .bf16) : FVec F S64x2048 .f32 := extf .f32 g bitsLt_bf16_f32
/-- A matrix, rounded for sending. -/
def narrow (g : FVec F S64x2048 .f32) : FVec F S64x2048 .bf16 := truncf .bf16 g bitsLt_bf16_f32

/-- What device `c`'s lane `l` sends at step `t`: its own partial product; then what it received with its product
    added; at step 15 the activation of the finished sum; then what it received. -/
def sentV : ℕ → Dev nD → Fin 4 → FVec F S64x2048 .bf16
  | 0, c, l => narrow (ownV m c l)
  | t + 1, c, l =>
    if h : t < 14 then narrow (addf (partV m c ⟨t, by omega⟩ l) (wide (sentV t (up c l) l)))
    else if t = 14 then narrow (act (addf (partV m c 14 l) (wide (sentV t (up c l) l))))
    else sentV t (up c l) l

/-- What lane `l` of device `c` writes to the result at step `14 + j`. -/
def outV (c : Dev nD) (l : Fin 4) : ℕ → FVec F S64x2048 .f32
  | 0 => act (addf (partV m c 14 l) (wide (sentV m 14 (up c l) l)))
  | j + 1 => wide (sentV m (14 + (j + 1)) (up c l) l)

/-- `j` as one of the sixteen steps that write the result. -/
def jf (j : ℕ) : Fin 16 := ⟨j % 16, Nat.mod_lt _ (by decide)⟩

/-! ## The schedule -/

/-- The slot that lane `l` of device `c` sends into at step `t`, free, and that its arrivals there are at this round. -/
def dnSlot (c : Dev nD) (l : Fin 4) (t : ℕ) : sProp 𝕄 :=
  iprop(any (slot rb l (par t)) (dn c l) ∗ reached ER (recvC (dn c l) l (par t)) (t / 2))

instance dnSlot_storable (c : Dev nD) (l : Fin 4) (t : ℕ) : BI.Storable (upEmb : UEmb _ 𝕄) (dnSlot (F := F) c l t) := by
  unfold dnSlot; infer_instance

/-- That lane `l` of device `c` has freed its slot for arrival `n + 2`, and that its arrivals there are at this round. -/
def freed (c : Dev nD) (l : Fin 4) (n : ℕ) : sProp 𝕄 :=
  iprop(Release.released ES (c, l, par n) (n / 2 + 1) ∗ reached ER (recvC c l (par n)) (n / 2 + 1))

instance freed_storable (c : Dev nD) (l : Fin 4) (n : ℕ) : BI.Storable (upEmb : UEmb _ 𝕄) (freed (F := F) c l n) := by
  unfold freed; infer_instance
instance freed_persistent (c : Dev nD) (l : Fin 4) (n : ℕ) : BI.Persistent (freed (F := F) c l n) := by
  unfold freed; infer_instance

/-- The slots freed by the credits before `n`. -/
def freedTo (c : Dev nD) (l : Fin 4) (n : ℕ) : sProp 𝕄 := bigSep (Finset.range n) (freed (F := F) c l)

instance freedTo_storable (c : Dev nD) (l : Fin 4) (n : ℕ) : BI.Storable (upEmb : UEmb _ 𝕄) (freedTo (F := F) c l n) := by
  unfold freedTo; infer_instance
instance freedTo_persistent (c : Dev nD) (l : Fin 4) (n : ℕ) : BI.Persistent (freedTo (F := F) c l n) := by
  unfold freedTo; infer_instance

/-- What a neighbour's signal at the barrier hands over: its slots for the two lanes that send to it. -/
def barPay (c : Dev nD) (d : ℕ) : sProp 𝕄 :=
  match d with
  | 0 => iprop(dnSlot c 0 0 ∗ dnSlot c 0 1 ∗ dnSlot c 1 0 ∗ dnSlot c 1 1)
  | _ + 1 => iprop(dnSlot c 2 0 ∗ dnSlot c 2 1 ∗ dnSlot c 3 0 ∗ dnSlot c 3 1)

instance barPay_storable (c : Dev nD) (d : ℕ) : BI.Storable (upEmb : UEmb _ 𝕄) (barPay (F := F) c d) := by
  unfold barPay; split <;> infer_instance

/-- What round `r` of a cell hands its owner. -/
def pay (c : Dev nD) (x : CK) (r : ℕ) (d : ℕ) : sProp 𝕄 :=
  match x with
  | none => barPay c d
  | some (l, .send s) => any (src (2 * r + s.val) l) c
  | some (l, .recv s) => has (slot rb l s) c (sentV m (2 * r + s.val) (up c l) l)
  | some (l, .st s) => iprop(any (slot sg l s) c ∗ has (orow c (jf (2 * r + s.val)) l) c (outV m c l (2 * r + s.val)))
  | some (l, .cred) => freedTo (dn c l) l (d + 1)

instance pay_storable (c : Dev nD) (x : CK) (r : ℕ) (d : ℕ) : BI.Storable (upEmb : UEmb _ 𝕄) (pay (F := F) m c x r d) := by
  unfold pay; split <;> infer_instance

def dutySet (x : CK) (r : ℕ) : Finset ℕ :=
  match x with
  | none => if r < 1 then Finset.range 2 else ∅
  | some (_, .send _) => if r < 15 then {0} else ∅
  | some (_, .recv _) => if r < 15 then {0} else ∅
  | some (_, .st _) => if r < 8 then {0} else ∅
  | some (_, .cred) => if r < 1 then Finset.range 28 else ∅

def amt (x : CK) : ℕ :=
  match x with
  | none => 1
  | some (_, .send _) => NT
  | some (_, .recv _) => NT
  | some (_, .st _) => NO
  | some (_, .cred) => 1

theorem amt_pos (x : CK) : 0 < amt x := by
  unfold amt; split
  · exact Nat.one_pos
  · exact NT_pos
  · exact NT_pos
  · exact NO_pos
  · exact Nat.one_pos

/-- The schedule of all the cells. -/
def Rd : Rounds.Schedule (GSem nD τ sig) ℕ 𝕄 where
  duties g r := Function.extend kcell (fun y => dutySet y.2 r) (fun _ => ∅) g
  unitless _ := False
  amount g _ _ := Function.extend kcell (fun y => amt y.2) (fun _ => 1) g
  payload g r d := Function.extend kcell (fun y => pay m y.1 y.2 r d) (fun _ => iprop(emp)) g
  amount_pos g _ _ _ := by
    unfold Function.extend; split
    · exact amt_pos _
    · exact Nat.one_pos

instance Rd_payload_storable (g : GSem nD τ sig) (r : ℕ) (d : ℕ) :
    BI.Storable (upEmb : UEmb _ 𝕄) ((Rd (F := F) m).payload g r d) := by
  show BI.Storable upEmb (Function.extend kcell (fun y => pay m y.1 y.2 r d) (fun _ => iprop(emp)) g)
  unfold Function.extend; split <;> infer_instance

theorem duties_at (c : Dev nD) (x : CK) (r : ℕ) : (Rd (F := F) m).duties (kcell (c, x)) r = dutySet x r :=
  kcell_injective.extend_apply (fun y => dutySet y.2 r) (fun _ => ∅) (c, x)
theorem amount_at (c : Dev nD) (x : CK) (r : ℕ) (d : ℕ) : (Rd (F := F) m).amount (kcell (c, x)) r d = amt x :=
  kcell_injective.extend_apply (fun y => amt y.2) (fun _ => 1) (c, x)
theorem payload_at (c : Dev nD) (x : CK) (r : ℕ) (d : ℕ) : (Rd (F := F) m).payload (kcell (c, x)) r d = pay m c x r d :=
  kcell_injective.extend_apply (fun y => pay m y.1 y.2 r d) (fun _ => iprop(emp)) (c, x)

/-- A round with the one duty `0` expects that duty's amount, and the rest of the round is its payload. -/
theorem expect_one (c : Dev nD) (x : CK) (r : ℕ) (h : dutySet x r = {0}) : (Rd (F := F) m).expect (kcell (c, x)) r = amt x := by
  unfold Schedule.expect Schedule.amountOf
  rw [duties_at, h, Finset.sum_singleton, amount_at]
theorem rest_one (c : Dev nD) (x : CK) (r : ℕ) (h : dutySet x r = {0}) :
    bigSep ((Rd (F := F) m).duties (kcell (c, x)) r \ ∅) (fun d => (Rd (F := F) m).payload (kcell (c, x)) r d) = pay m c x r 0 := by
  rw [Finset.sdiff_empty, duties_at, h, bigSep_singleton, payload_at]

theorem expect_bar (c : Dev nD) : (Rd (F := F) m).expect (barC c) 0 = 2 := by
  show (Rd (F := F) m).expect (kcell (c, none)) 0 = 2
  unfold Schedule.expect Schedule.amountOf
  rw [duties_at, Finset.sum_congr rfl fun d _ => amount_at m c none 0 d]; decide
theorem rest_bar (c : Dev nD) :
    bigSep ((Rd (F := F) m).duties (barC c) 0 \ ∅) (fun d => (Rd (F := F) m).payload (barC c) 0 d) = iprop(barPay c 0 ∗ barPay c 1) := by
  show bigSep ((Rd (F := F) m).duties (kcell (c, none)) 0 \ ∅) (fun d => (Rd (F := F) m).payload (kcell (c, none)) 0 d) = _
  rw [Finset.sdiff_empty, duties_at, show dutySet none 0 = Finset.range 2 from rfl, bigSep_eq_bigSepL_of_eq [0, 1] (by decide) (by decide),
    bigSepL_cons_cons, bigSepL_singleton, payload_at, payload_at]
  rfl

/-- After its last round a cell has no duties. -/
theorem duties_later (c : Dev nD) (x : CK) (R : ℕ) (h : ∀ r, R ≤ r → dutySet x r = ∅) : ∀ r, R ≤ r → (Rd (F := F) m).duties (kcell (c, x)) r = ∅ :=
  fun r hr => (duties_at m c x r).trans (h r hr)

theorem two_par (t : ℕ) : 2 * (t / 2) + (par t).val = t := Nat.div_add_mod t 2

theorem pay_send (c : Dev nD) (l : Fin 4) (t : ℕ) : pay m c (some (l, .send (par t))) (t / 2) 0 = any (src t l) c := by
  unfold pay; dsimp only; rw [two_par]
theorem pay_recv (c : Dev nD) (l : Fin 4) (t : ℕ) : pay m c (some (l, .recv (par t))) (t / 2) 0 = has (slot rb l (par t)) c (sentV m t (up c l) l) := by
  unfold pay; dsimp only; rw [two_par]
theorem pay_st (c : Dev nD) (l : Fin 4) (j : ℕ) :
    pay m c (some (l, .st (par j))) (j / 2) 0 = iprop(any (slot sg l (par j)) c ∗ has (orow c (jf j) l) c (outV m c l j)) := by
  unfold pay; dsimp only; rw [two_par]

theorem set_send (l : Fin 4) (t : ℕ) (h : t < 30) : dutySet (some (l, .send (par t))) (t / 2) = {0} := if_pos (by omega)
theorem set_recv (l : Fin 4) (t : ℕ) (h : t < 30) : dutySet (some (l, .recv (par t))) (t / 2) = {0} := if_pos (by omega)
theorem set_st (l : Fin 4) (j : ℕ) (h : j < 16) : dutySet (some (l, .st (par j))) (j / 2) = {0} := if_pos (by omega)
theorem set_cred (l : Fin 4) : dutySet (some (l, .cred)) 0 = Finset.range 28 := rfl
theorem expect_cred (c : Dev nD) (l : Fin 4) : (Rd (F := F) m).expect (credC c l) 0 = 28 := by
  show (Rd (F := F) m).expect (kcell (c, some (l, .cred))) 0 = 28
  unfold Schedule.expect Schedule.amountOf
  rw [duties_at, Finset.sum_congr rfl fun d _ => amount_at m c (some (l, .cred)) 0 d, set_cred,
    show amt (some (l, .cred)) = 1 from rfl, Finset.sum_const, Finset.card_range, smul_eq_mul]

/-! ## What is owed, and in which order it may be waited for -/

/-- The step at which credit `k` is given: step 15 gives none. -/
def stepOf (k : ℕ) : ℕ := if k ≤ 14 then k else k + 1

/-- The level of a cell's index: own departures and copies lowest, then the barrier, then the arrivals and credits in the
    order of the steps and lanes they come from. -/
def lvl (x : CK) (u : ℕ) : ℕ :=
  match x with
  | none => 1
  | some (l, .recv _) => 2 + 3 * (4 * u + l.val)
  | some (l, .cred) => 2 + 3 * (4 * stepOf u + l.val) + 1
  | some (_, .send _) => 0
  | some (_, .st _) => 0

def lv (g : GSem nD τ sig) (u : ℕ) : ℕ := Function.extend kcell (fun y => lvl y.2 u) (fun _ => 0) g
def L (g : GSem nD τ sig) : Finset ℕ := if g.1.2 = .tc then Finset.range 64 else ∅

theorem lv_at (c : Dev nD) (x : CK) (u : ℕ) : lv (kcell (c, x)) u = lvl x u :=
  kcell_injective.extend_apply (fun y => lvl y.2 u) (fun _ => 0) (c, x)
theorem L_of_ne (g : GSem nD τ sig) (h : g.1.2 ≠ .tc) : L g = ∅ := if_neg h
theorem L_tc (c : Dev nD) (sm : SemLoc sig) : L ((c : Thread nD τ), sm) = Finset.range 64 := if_pos rfl

/-- Everything owed lies above level `b`. -/
def Above (b : ℕ) (O : CellTallies nD τ sig ℕ) : Prop := ∀ g u, 0 < O g u → u ∈ L g ∧ b < lv g u

theorem Above.zero (b : ℕ) : Above b 0 := fun g u h => absurd h (Nat.lt_irrefl 0)
theorem Above.add {b : ℕ} {O O' : CellTallies nD τ sig ℕ} (h : Above b O) (h' : Above b O') : Above b (O + O') := fun g u hg => by
  rw [Pi.add_apply, Finsupp.add_apply] at hg
  rcases Nat.eq_zero_or_pos (O g u) with h0 | h0
  · exact h' g u (by omega)
  · exact h g u h0
theorem Above.sum {b : ℕ} {I : Type} (S : Finset I) (O : I → CellTallies nD τ sig ℕ) (h : ∀ i ∈ S, Above b (O i)) : Above b (∑ i ∈ S, O i) := by
  classical
  induction S using Finset.induction_on with
  | empty => rw [Finset.sum_empty]; exact Above.zero b
  | insert i S hi ih =>
    rw [Finset.sum_insert hi]
    exact (h i (Finset.mem_insert_self _ _)).add (ih fun j hj => h j (Finset.mem_insert_of_mem hj))
theorem Above.tally {b : ℕ} (c : Dev nD) (x : CK) (u n : ℕ) (hu : u < 64) (hb : b < lvl x u) : Above b (tallyAt (kcell (c, x)) u n) := fun g v hg => by
  rw [tallyAt_apply] at hg
  by_cases h : g = kcell (c, x) ∧ v = u
  · obtain ⟨rfl, rfl⟩ := h
    exact ⟨by rw [L_tc]; exact Finset.mem_range.mpr hu, by rw [lv_at]; exact hb⟩
  · rw [if_neg h] at hg; exact absurd hg (Nat.lt_irrefl 0)
theorem Above.mono {b b' : ℕ} {O : CellTallies nD τ sig ℕ} (h : Above b O) (hb : b' ≤ b) : Above b' O := fun g u hg =>
  ⟨(h g u hg).1, Nat.lt_of_le_of_lt hb (h g u hg).2⟩

/-- A cell may be waited for while everything owed lies above it. -/
theorem mayWait_of_above (c : Dev nD) (sm : SemLoc sig) (u : ℕ) (hu : u < 64) (O : CellTallies nD τ sig ℕ)
    (h : Above (lv ((c : Thread nD τ), sm) u) O) : (levAts L lv : sProp 𝕄) ⊢ MayWait (c : Thread nD τ) sm u O :=
  MayOwe.of_cut (L := L) (lev := lv) (lv ((c : Thread nD τ), sm) u)
    (fun p hp => by rw [Finset.mem_singleton.mp hp, L_tc]; exact Finset.mem_range.mpr hu)
    (fun g v hg => (h g v hg).1)
    (fun p hp => by rw [Finset.mem_singleton.mp hp])
    (fun g v hg => (h g v hg).2)

/-- What device `c` still owes for lane `l`: the transfers from step `a` on and the credits from `b` on. -/
def oweL (c : Dev nD) (l : Fin 4) (a b : ℕ) : CellTallies nD τ sig ℕ :=
  (∑ t ∈ Finset.Ico a 30, tallyAt (recvC (dn c l) l (par t)) t NT) + ∑ k ∈ Finset.Ico b 28, tallyAt (credC (up c l) l) k 1

/-- The first of an interval set apart. -/
theorem Ico_peel {a b : ℕ} (h : a < b) : Finset.Ico a b = insert a (Finset.Ico (a + 1) b) := by
  ext x; rw [Finset.mem_insert, Finset.mem_Ico, Finset.mem_Ico]; omega
theorem not_mem_Ico_succ (a b : ℕ) : a ∉ Finset.Ico (a + 1) b := fun h => by
  have := (Finset.mem_Ico.mp h).1; omega

theorem oweL_send (c : Dev nD) (l : Fin 4) (a b : ℕ) (h : a < 30) :
    oweL c l a b = oweL c l (a + 1) b + tallyAt (recvC (dn c l) l (par a)) a NT := by
  unfold oweL
  rw [Ico_peel h, Finset.sum_insert (not_mem_Ico_succ a 30), add_assoc, add_comm]
theorem oweL_credit (c : Dev nD) (l : Fin 4) (a b : ℕ) (h : b < 28) :
    oweL c l a b = oweL c l a (b + 1) + tallyAt (credC (up c l) l) b 1 := by
  unfold oweL
  rw [Ico_peel h, Finset.sum_insert (not_mem_Ico_succ b 28), add_comm (tallyAt _ _ _), add_assoc]

theorem stepOf_mono {b k : ℕ} (h : b ≤ k) : stepOf b ≤ stepOf k := by
  unfold stepOf; split <;> split <;> omega

theorem oweL_above (c : Dev nD) (l : Fin 4) (a b n : ℕ) (ha : n < 2 + 3 * (4 * a + l.val)) (hb : n < 2 + 3 * (4 * stepOf b + l.val) + 1) :
    Above n (oweL c l a b) := by
  refine (Above.sum _ _ fun t ht => ?_).add (Above.sum _ _ fun k hk => ?_)
  · have h := Finset.mem_Ico.mp ht
    exact Above.tally (dn c l) (some (l, .recv (par t))) t NT (by omega) (show n < 2 + 3 * (4 * t + l.val) by omega)
  · have h := Finset.mem_Ico.mp hk
    have h' := stepOf_mono h.1
    exact Above.tally (up c l) (some (l, .cred)) k 1 (by omega) (show n < 2 + 3 * (4 * stepOf k + l.val) + 1 by omega)

/-- What device `c` owes at launch; the two barrier signals are the last summands, in the order they are peeled. -/
def O₂ (c : Dev nD) : CellTallies nD τ sig ℕ := ((oweL c 0 0 0 + oweL c 1 0 0) + oweL c 2 0 0) + oweL c 3 0 0
def O₁ (c : Dev nD) : CellTallies nD τ sig ℕ := O₂ c + tallyAt (barC (rt c)) 0 1
def O₀ (c : Dev nD) : CellTallies nD τ sig ℕ := O₁ c + tallyAt (barC (lf c)) 0 1

theorem O₂_above (c : Dev nD) : Above 1 (O₂ c) := by
  unfold O₂
  refine (((oweL_above c 0 0 0 1 ?_ ?_).add (oweL_above c 1 0 0 1 ?_ ?_)).add (oweL_above c 2 0 0 1 ?_ ?_)).add (oweL_above c 3 0 0 1 ?_ ?_) <;> decide
theorem O₀_above (c : Dev nD) : Above 0 (O₀ c) :=
  (((O₂_above c).mono (Nat.zero_le 1)).add (Above.tally (rt c) none 0 1 (by decide) (by decide))).add (Above.tally (lf c) none 0 1 (by decide) (by decide))

end Cert.RingProof

end
-- ==== Proof.Pieces.lean ====
/-
What each piece of a lane's step does to what the device holds: one rule per kind of operation, at any lane, slot and
step.
-/
module

public import proofs.«01_k».proof.Proof.Protocol

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c` runs `p` to `Q`. -/
abbrev WP (c : Dev nD) (p : BProg F) (Q : PUnit → sProp 𝕄) : sProp 𝕄 :=
  wp frame (wpE (defs₀ (F := F)) 𝒱₀ (c : Thread nD τ) none) Set.univ p Q

/-! ## What a device holds of the protocol -/

variable (m : (ℓ : Loc nD τ sig) → Buf (Elt F) ℓ) (K : Dev nD × CK → ℕ) (J : SK → ℕ)

/-- The invariants of all the cells, that each has reached its first round, the levels, and the invariants that hold the
    receive slots between a credit and the transfer it allows. -/
def ctx : sProp 𝕄 :=
  iprop((bigSep Finset.univ fun y : Dev nD × CK => cellInv ER (Rd m) (K y) (kcell y))
    ∗ (bigSep Finset.univ fun y : Dev nD × CK => reached ER (kcell y) 0) ∗ levAts L lv
    ∗ (bigSep Finset.univ fun y : SK => Release.slotInv ES (J y) y (any (slot rb y.2.1 y.2.2) y.1)))

instance ctx_persistent : BI.Persistent (ctx m K J) := by unfold ctx; infer_instance

/-- One of many. -/
theorem pick {I : Type} [DecidableEq I] {S : Finset I} {i : I} (h : i ∈ S) (Φ : I → sProp 𝕄) : (bigSep S Φ : sProp 𝕄) ⊢ Φ i := bigSep_elim h

theorem ctx_inv (c : Dev nD) (x : CK) : ctx m K J ⊢ cellInv ER (Rd m) (K (c, x)) (kcell (c, x)) := by
  unfold ctx
  iintro ⟨H, -, -, -⟩
  iapply (pick (Finset.mem_univ (c, x)) fun y : Dev nD × CK => cellInv ER (Rd m) (K y) (kcell y))
  iexact H
theorem ctx_reached (c : Dev nD) (x : CK) : ctx m K J ⊢ reached ER (kcell (c, x)) 0 := by
  unfold ctx
  iintro ⟨-, H, -, -⟩
  iapply (pick (Finset.mem_univ (c, x)) fun y : Dev nD × CK => (reached ER (kcell y) 0 : sProp 𝕄))
  iexact H
theorem ctx_lev : ctx m K J ⊢ levAts L lv := by
  unfold ctx
  iintro ⟨-, -, H, -⟩
  iexact H
theorem ctx_slot (c : Dev nD) (l : Fin 4) (s : Fin 2) : ctx m K J ⊢ Release.slotInv ES (J (c, l, s)) (c, l, s) (any (slot rb l s) c) := by
  unfold ctx
  iintro ⟨-, -, -, H⟩
  iapply (pick (Finset.mem_univ (c, l, s)) fun y : SK => Release.slotInv ES (J y) y (any (slot rb y.2.1 y.2.2) y.1))
  iexact H
set_option maxRecDepth 100000 in
/-- A cell may be waited for while everything owed lies above it. -/
theorem ctx_wait (c : Dev nD) (x : CK) (u : ℕ) (hu : u < 64) (O : CellTallies nD τ sig ℕ) (h : Above (lvl x u) O) :
    ctx m K J ⊢ MayWait (c : Thread nD τ) (asem x) u O :=
  (ctx_lev m K J).trans (mayWait_of_above c (asem x) u hu O (by
    have e : lv ((c : Thread nD τ), asem x) u = lvl x u := lv_at c x u
    rw [e]; exact h))

/-- What device `c` owes, whatever it has waited for. -/
def owesX (c : Dev nD) (O : CellTallies nD τ sig ℕ) : sProp 𝕄 := iprop(∃ W, owes (c : Thread nD τ) O W)

section Names
variable (c : Dev nD) (l : Fin 4) (t : ℕ)
/-- The position from which step `t`'s departure, arrival, copy or credit is waited for. -/
def posS : sProp 𝕄 := atPos ER (sendC c l (par t)) (t / 2) ∅ 0
def posR : sProp 𝕄 := atPos ER (recvC c l (par t)) (t / 2) ∅ 0
def posO : sProp 𝕄 := atPos ER (stC c l (par t)) (t / 2) ∅ 0
def posC : sProp 𝕄 :=
  iprop(∃ T : Finset ℕ, ⌜T ⊆ Finset.range 28 ∧ t + (Finset.range 28 \ T).card ≤ 28⌝ ∗ atPos ER (credC c l) 0 T t
    ∗ bigSep T fun d => freedTo (dn c l) l (d + 1))
/-- How often the slot of credit `t` has been freed; and the right to take, downstream, the slot that credit `t` frees. -/
def rdr : sProp 𝕄 := Release.readerAt ES (c, l, par t) (t / 2)
def tokW : sProp 𝕄 := Release.writeTok ES (dn c l, l, par t) (t / 2 + 1)
/-- That the round of step `t`'s departure, arrival or copy is reached. -/
def rchS : sProp 𝕄 := reached ER (sendC c l (par t)) (t / 2)
def rchR : sProp 𝕄 := reached ER (recvC c l (par t)) (t / 2)
def rchO : sProp 𝕄 := reached ER (stC c l (par t)) (t / 2)
/-- The right to make step `t`'s departure, its arrival downstream, its copy, and to give credit `t` upstream. -/
def tokS : sProp 𝕄 := dutyTok ER (sendC c l (par t)) (t / 2) 0
def tokR : sProp 𝕄 := dutyTok ER (recvC (dn c l) l (par t)) (t / 2) 0
def tokO : sProp 𝕄 := dutyTok ER (stC c l (par t)) (t / 2) 0
def tokC : sProp 𝕄 := dutyTok ER (credC (up c l) l) 0 t
/-- The right to wait for step `t`'s departure, its arrival, its copy, and for credit `t`. -/
def crS : sProp 𝕄 := cred (tallyAt (sendC c l (par t)) 0 NT)
def crR : sProp 𝕄 := cred (tallyAt (recvC c l (par t)) t NT)
def crO : sProp 𝕄 := cred (tallyAt (stC c l (par t)) 0 NO)
def crC : sProp 𝕄 := cred (tallyAt (credC c l) t 1)
end Names

instance rchS_persistent (c : Dev nD) (l : Fin 4) (t : ℕ) : BI.Persistent (rchS (F := F) c l t) := by unfold rchS; infer_instance
instance rchR_persistent (c : Dev nD) (l : Fin 4) (t : ℕ) : BI.Persistent (rchR (F := F) c l t) := by unfold rchR; infer_instance
instance rchO_persistent (c : Dev nD) (l : Fin 4) (t : ℕ) : BI.Persistent (rchO (F := F) c l t) := by unfold rchO; infer_instance

theorem ctx_rchS (c : Dev nD) (l : Fin 4) (t : ℕ) (h : t < 2) : ctx m K J ⊢ rchS c l t := by
  unfold rchS; rw [Nat.div_eq_of_lt h]; exact ctx_reached m K J c (some (l, .send (par t)))
theorem ctx_rchR (c : Dev nD) (l : Fin 4) (t : ℕ) (h : t < 2) : ctx m K J ⊢ rchR c l t := by
  unfold rchR; rw [Nat.div_eq_of_lt h]; exact ctx_reached m K J c (some (l, .recv (par t)))
theorem ctx_rchO (c : Dev nD) (l : Fin 4) (t : ℕ) (h : t < 2) : ctx m K J ⊢ rchO c l t := by
  unfold rchO; rw [Nat.div_eq_of_lt h]; exact ctx_reached m K J c (some (l, .st (par t)))
theorem par_add_two (t : ℕ) : par (t + 2) = par t := Fin.ext (Nat.add_mod_right t 2)
theorem div_add_two (t : ℕ) : (t + 2) / 2 = t / 2 + 1 := Nat.add_div_right t (by decide)

/-! ## Waits -/

theorem sb_credit (l : Fin 4) (s : Fin 2) : (slot sb l s).view.dmaCredit = NT := rfl
theorem rb_credit (l : Fin 4) (s : Fin 2) : (slot rb l s).view.dmaCredit = NT := rfl
theorem src_credit (t : ℕ) (l : Fin 4) : (src t l).view.dmaCredit = NT := by
  unfold src; split
  · exact sb_credit l _
  · exact rb_credit l _

/-- The wait for a cell's round with the one duty. -/
theorem wp_wait_one {w : TpuEff nD τ sig (Elt F) Λ₀ .tc PUnit} (c : Dev nD) (x : CK) (r u n : ℕ)
    (hw : ∀ P : PUnit → sProp 𝕄, wpE (defs₀ (F := F)) 𝒱₀ (c : Thread nD τ) none Set.univ w P = waitSpec (c : Thread nD τ) Set.univ (asem x) n P)
    (hn : amt x = n) (hd : dutySet x r = {0}) (hu : u < 64) (O : CellTallies nD τ sig ℕ) (hO : Above (lvl x u) O)
    (k : BProg F) (Q : PUnit → sProp 𝕄) :
    iprop(ctx m K J ∗ cred (tallyAt (kcell (c, x)) u n) ∗ atPos ER (kcell (c, x)) r ∅ 0 ∗ owesX c O
        ∗ ((atPos ER (kcell (c, x)) (r + 1) ∅ 0 ∗ reached ER (kcell (c, x)) (r + 1) ∗ pay m c x r 0 ∗ owesX c O) -∗ WP c k Q))
      ⊢ WP c (.op w fun _ => k) Q := by
  unfold owesX
  iintro ⟨#Hc, Hcr, Hat, ⟨%W, HO⟩, Hk⟩
  iapply (Rounds.wp_wait_rest_token 𝒱₀ ER (Rd m) (c : Thread nD τ) none (κ := K (c, x)) hw (Set.mem_univ _) u (O := O) (W := W)
      (R := r) (m := 0) (T := ∅) (by rw [Nat.zero_add]; exact hn.symm.trans (expect_one m c x r hd).symm)) $$ [Hcr Hat HO]
  · isplitr; · iapply (ctx_inv m K J c x); iexact Hc
    isplitl [Hcr]; · iexact Hcr
    isplitl [HO]; · iexact HO
    isplitr
    · iapply (ctx_wait m K J c x u hu O hO); iexact Hc
    iexact Hat
  iintro ⟨HO, Hat, #Hr, Hp⟩
  ihave Hp := (Entails.of_eq (rest_one m c x r hd)) $$ Hp
  iapply Hk
  isplitl [Hat]; · iexact Hat
  isplitr; · iexact Hr
  isplitl [Hp]; · iexact Hp
  iexists _; iexact HO

/-- Waiting for step `t`'s departure gives back what it was sent from. -/
theorem wp_waitSend (c : Dev nD) (l : Fin 4) (t : ℕ) (ht : t < 30) (O : CellTallies nD τ sig ℕ) (hO : Above 0 O) (k : BProg F) (Q : PUnit → sProp 𝕄) :
    iprop(ctx m K J ∗ crS c l t ∗ posS c l t ∗ owesX c O
        ∗ ((posS c l (t + 2) ∗ rchS c l (t + 2) ∗ any (src t l) c ∗ owesX c O) -∗ WP c k Q)) ⊢ WP c (waitSend t l k) Q := by
  unfold crS posS rchS waitSend
  rw [← pay_send m, par_add_two, div_add_two]
  exact wp_wait_one m K J c (some (l, .send (par t))) (t / 2) 0 NT
    (fun P => by rw [wpE_waitDma2_eq, src_credit]) rfl (set_send l t ht) (by decide) O hO k Q

/-- Waiting for step `t`'s arrival gives the slot it arrived in, with what upstream sent. -/
theorem wp_waitRecv (c : Dev nD) (l : Fin 4) (t : ℕ) (ht : t < 30) (O : CellTallies nD τ sig ℕ) (hO : Above (2 + 3 * (4 * t + l.val)) O)
    (k : BProg F) (Q : PUnit → sProp 𝕄) :
    iprop(ctx m K J ∗ crR c l t ∗ posR c l t ∗ owesX c O
        ∗ ((posR c l (t + 2) ∗ rchR c l (t + 2) ∗ has (slot rb l (par t)) c (sentV m t (up c l) l) ∗ owesX c O) -∗ WP c k Q))
      ⊢ WP c (waitRecv t l k) Q := by
  unfold crR posR rchR waitRecv
  rw [← pay_recv m, par_add_two, div_add_two]
  exact wp_wait_one m K J c (some (l, .recv (par t))) (t / 2) t NT
    (fun P => by rw [wpE_waitDma2_eq]; rfl) rfl (set_recv l t ht) (by omega) O hO k Q

/-- Waiting for the copy of step `14 + j` gives back its staging slot, and the rows it wrote. -/
theorem wp_waitOut (c : Dev nD) (l : Fin 4) (j : ℕ) (hj : j < 16) (O : CellTallies nD τ sig ℕ) (hO : Above 0 O) (k : BProg F) (Q : PUnit → sProp 𝕄) :
    iprop(ctx m K J ∗ crO c l j ∗ posO c l j ∗ owesX c O
        ∗ ((posO c l (j + 2) ∗ rchO c l (j + 2) ∗ (any (slot sg l (par j)) c ∗ has (orow c (jf j) l) c (outV m c l j)) ∗ owesX c O) -∗ WP c k Q))
      ⊢ WP c (waitOut c ⟨j, hj⟩ l k) Q := by
  unfold crO posO rchO waitOut
  rw [← pay_st m, par_add_two, div_add_two]
  exact wp_wait_one m K J c (some (l, .st (par j))) (j / 2) 0 NO
    (fun P => by rw [wpE_waitDma2_eq]; rfl) rfl (set_st l j hj) (by decide) O hO k Q

/-- Among the credits of a prefix's size one is not below its size. -/
theorem exists_credit {S : Finset ℕ} {n : ℕ} (h : n + 1 + (Finset.range 28 \ S).card ≤ 28) (hS : S ⊆ Finset.range 28) : ∃ d ∈ S, n ≤ d := by
  by_contra hn
  have hsub : S ⊆ Finset.range n := fun d hd => Finset.mem_range.mpr (Nat.lt_of_not_le fun h' => hn ⟨d, hd, h'⟩)
  have h1 := Finset.card_le_card hsub
  have h2 := Finset.card_sdiff_add_card_eq_card hS
  rw [Finset.card_range] at h1 h2
  omega

/-- A slot that a credit freed can be taken for the transfer it allows. -/
theorem take_slot (c : Dev nD) (l : Fin 4) (n : ℕ) :
    iprop(ctx m K J ∗ freed (dn c l) l n ∗ tokW c l n) ⊢ (|={Set.univ}=> dnSlot c l (n + 2) : sProp 𝕄) := by
  unfold freed tokW dnSlot
  rw [par_add_two, div_add_two]
  iintro ⟨#Hc, ⟨#Hrel, #Hr⟩, Ht⟩
  imod (Release.slot_take ES (ι := J (dn c l, l, par n)) (k := (dn c l, l, par n)) (S := any (slot rb l (par n)) (dn c l)) (Set.mem_univ _) (n / 2 + 1)) $$ [Ht] with H
  · isplitr; · iapply (ctx_slot m K J (dn c l) l (par n)); iexact Hc
    isplitr; · iexact Hrel
    iexact Ht
  imodintro
  isplitl [H]; · iexact H
  iexact Hr

/-- Waiting for credit `n` gives the slot downstream that it frees. -/
theorem wp_waitCred (c : Dev nD) (l : Fin 4) (n : ℕ) (hn : n < 28) (O : CellTallies nD τ sig ℕ)
    (hO : Above (2 + 3 * (4 * stepOf n + l.val) + 1) O) (k : BProg F) (Q : PUnit → sProp 𝕄) :
    iprop(ctx m K J ∗ crC c l n ∗ posC c l n ∗ tokW c l n ∗ owesX c O
        ∗ ((posC c l (n + 1) ∗ dnSlot c l (n + 2) ∗ owesX c O) -∗ WP c k Q))
      ⊢ WP c (.op (.semWait (csem l) (1#32).toInt) fun _ => k) Q := by
  unfold crC posC owesX
  iintro ⟨#Hc, Hcr, ⟨%T, %hT, Hat, HT⟩, Hw, ⟨%W, HO⟩, Hk⟩
  iapply (Rounds.wp_wait 𝒱₀ ER (Rd m) (c : Thread nD τ) none (κ := K (c, some (l, .cred))) (k' := 1) (sm := .reg (csem l))
      (fun P => wpE_semWait_eq 𝒱₀ (c : Thread nD τ) none Set.univ (k := 1) P) (Set.mem_univ _)
      (cr := Finsupp.single n 1) (O := O) (W := W) {(.reg (csem l), n)} (R := 0) (m := n) (T := T)
      (by rw [Util.total_single]) (image_single_subset (.reg (csem l)) n 1)) $$ [Hcr Hat HO]
  · isplitr; · iapply (ctx_inv m K J c (some (l, .cred))); iexact Hc
    isplitl [Hcr]; · iexact Hcr
    isplitl [HO]; · iexact HO
    isplitr
    · iapply (ctx_wait m K J c (some (l, .cred)) n (by omega) O hO); iexact Hc
    iexact Hat
  iintro %S ⟨%hS, HO, Hat, HS⟩
  have hd : (Rd (F := F) m).duties ((c : Thread nD τ), .reg (csem l)) 0 = Finset.range 28 := duties_at m c (some (l, .cred)) 0
  have he : (Rd (F := F) m).expect ((c : Thread nD τ), .reg (csem l)) 0 = 28 := expect_cred m c l
  rw [hd, he] at hS
  obtain ⟨hTS, hSr, hcard⟩ := hS
  obtain ⟨d, hdS, hnd⟩ := exists_credit hcard hSr
  have hpay : bigSep (S \ T) (fun d => (Rd (F := F) m).payload ((c : Thread nD τ), .reg (csem l)) 0 d) = bigSep (S \ T) (fun d => freedTo (dn c l) l (d + 1)) :=
    bigSep_congr fun d _ => payload_at m c (some (l, .cred)) 0 d
  ihave HS := (Entails.of_eq hpay) $$ HS
  have hjoin : iprop(bigSep T (fun d => (freedTo (dn c l) l (d + 1) : sProp 𝕄)) ∗ bigSep (S \ T) (fun d => freedTo (dn c l) l (d + 1)))
      ⊢ bigSep S (fun d => freedTo (dn c l) l (d + 1)) :=
    Entails.of_eq (bigSep_sdiff_split hTS).symm
  ihave #HS' := hjoin $$ [HT HS]
  · isplitl [HT] <;> iassumption
  have hfreed : bigSep S (fun d => (freedTo (dn c l) l (d + 1) : sProp 𝕄)) ⊢ freed (dn c l) l n :=
    (pick hdS fun d => (freedTo (dn c l) l (d + 1) : sProp 𝕄)).trans
      (pick (Finset.mem_range.mpr (Nat.lt_succ_of_le hnd)) (freed (dn c l) l : ℕ → sProp 𝕄))
  imod (take_slot m K J c l n) $$ [Hw] with Hslot
  · isplitr; · iexact Hc
    isplitr; · iapply hfreed; iexact HS'
    iexact Hw
  iapply Hk
  isplitl [Hat]
  · iexists S
    isplitr; · ipureintro; exact ⟨hSr, hcard⟩
    isplitl [Hat]; · iexact Hat
    iexact HS'
  isplitl [Hslot]; · iexact Hslot
  iexists _; iexact HO

/-! ## Transfers, copies and credits -/

theorem jf_of_lt (j : ℕ) (h : j < 16) : jf j = ⟨j, h⟩ := Fin.ext (Nat.mod_eq_of_lt h)

/-- Starting step `t`'s transfer: what it reads and the slot downstream are handed over. -/
theorem wp_sendDma (c : Dev nD) (l : Fin 4) (t : ℕ) (ht : t < 30) (O : CellTallies nD τ sig ℕ) (k : BProg F) (Q : PUnit → sProp 𝕄) :
    iprop(ctx m K J ∗ has (src t l) c (sentV m t c l) ∗ dnSlot c l t ∗ tokS c l t ∗ rchS c l t ∗ tokR c l t
        ∗ owesX c (O + tallyAt (recvC (dn c l) l (par t)) t NT) ∗ ((crS c l t ∗ owesX c O) -∗ WP c k Q))
      ⊢ WP c (sendDma c t l k) Q := by
  unfold has dnSlot any tokS rchS tokR owesX crS sendDma
  iintro ⟨#Hc, ⟨%fs, %hfs, Hs⟩, ⟨⟨%fd, Hd⟩, #HrR⟩, HtS, #HrS, HtR, ⟨%W, HO⟩, Hk⟩
  iapply (Rounds.wp_send_pointsTo 𝒱₀ ER (Rd m) (c : Thread nD τ) none (c' := (dn c l : Thread nD τ))
      (κ₁ := K (c, some (l, .send (par t)))) (κ₂ := K (dn c l, some (l, .recv (par t))))
      (r₁ := t / 2) (r₂ := t / 2) (d₁ := 0) (d₂ := 0) (fd := fd) (fs := fs) (q := fullShare)
      (sS := .dma (dsem cc0_scratch5 l (par t))) (sem := .dma (dsem cc0_scratch6 l (par t)))
      (by rw [show (Rd (F := F) m).duties ((c : Thread nD τ), .dma (dsem cc0_scratch5 l (par t))) (t / 2) = _ from
            (duties_at m c (some (l, .send (par t))) (t / 2)).trans (set_send l t ht)]; exact Finset.mem_singleton_self _)
      (by rw [show (Rd (F := F) m).duties ((dn c l : Thread nD τ), .dma (dsem cc0_scratch6 l (par t))) (t / 2) = _ from
            (duties_at m (dn c l) (some (l, .recv (par t))) (t / 2)).trans (set_recv l t ht)]; exact Finset.mem_singleton_self _)
      t 0 NT rfl (amount_at m c (some (l, .send (par t))) (t / 2) 0) (amount_at m (dn c l) (some (l, .recv (par t))) (t / 2) 0) O rfl (W := W)
      (by rw [show (Rd (F := F) m).payload ((c : Thread nD τ), .dma (dsem cc0_scratch5 l (par t))) (t / 2) 0 = _ from
            (payload_at m c (some (l, .send (par t))) (t / 2) 0).trans (pay_send m c l t)]
          unfold any; iintro H; iexists fs; iexact H)
      (by rw [show (Rd (F := F) m).payload ((dn c l : Thread nD τ), .dma (dsem cc0_scratch6 l (par t))) (t / 2) 0 = _ from
            (payload_at m (dn c l) (some (l, .recv (par t))) (t / 2) 0).trans (pay_recv m (dn c l) l t)]
          unfold has; rw [up_dn]; iintro H; iexists ((slot rb l (par t)).view.write (Elt F) fd ((src t l).view.read (Elt F) fs) Finset.univ); isplitr
          · ipureintro; exact (View.read_write_univ _ _).trans hfs
          · iexact H)) $$ [Hs Hd HO HtS HtR]
  · isplitr; · iapply (ctx_inv m K J c (some (l, .send (par t)))); iexact Hc
    isplitr; · iapply (ctx_inv m K J (dn c l) (some (l, .recv (par t)))); iexact Hc
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hcr, HO⟩
  iapply Hk
  isplitl [Hcr]; · iexact Hcr
  iexists W; iexact HO

theorem rb_slot_nonempty (l : Fin 4) (s : Fin 2) : ((slot rb l s).view.set).Nonempty :=
  View.set_nonempty (by decide)

/-- Giving credit `n`: the freed slot waits for upstream's next transfer. -/
theorem wp_credit (c : Dev nD) (l : Fin 4) (n : ℕ) (hn : n < 28) (O : CellTallies nD τ sig ℕ) (k : BProg F) (Q : PUnit → sProp 𝕄) :
    iprop(ctx m K J ∗ any (slot rb l (par n)) c ∗ rchR c l (n + 2) ∗ rdr c l n ∗ freedTo c l n ∗ tokC c l n
        ∗ owesX c (O + tallyAt (credC (up c l) l) n 1) ∗ ((rdr c l (n + 2) ∗ freedTo c l (n + 1) ∗ owesX c O) -∗ WP c k Q))
      ⊢ WP c (credit c l k) Q := by
  unfold rchR rdr tokC owesX credit
  rw [par_add_two, div_add_two]
  iintro ⟨#Hc, Hs, #HrR, Hrd, #Hfr, Ht, ⟨%W, HO⟩, Hk⟩
  imod (Release.slot_release ES (ι := J (c, l, par n)) (k := (c, l, par n)) (S := any (slot rb l (par n)) c) (Set.mem_univ _)
      (Release.slot_slot_false (rb_slot_nonempty l (par n))) (n / 2)) $$ [Hs Hrd] with ⟨Hrd, #Hrel⟩
  · isplitr; · iapply (ctx_slot m K J c l (par n)); iexact Hc
    isplitl [Hrd] <;> iassumption
  have hfr : iprop(freed c l n ∗ freedTo c l n) ⊢ (freedTo c l (n + 1) : sProp 𝕄) :=
    Entails.of_eq (by unfold freedTo; rw [Finset.range_add_one, bigSep_insert Finset.notMem_range_self]; rfl)
  ihave #Hfr' := hfr $$ []
  · isplitr
    · unfold freed; isplitr; · iexact Hrel
      iexact HrR
    · iexact Hfr
  iapply (Rounds.wp_signal 𝒱₀ ER (Rd m) (c : Thread nD τ) none (dst := (up c l : Thread nD τ)) (sem := csem l) (κ := K (up c l, some (l, .cred)))
      (r := 0) (d := n)
      (by rw [show (Rd (F := F) m).duties ((up c l : Thread nD τ), .reg (csem l)) 0 = _ from
            (duties_at m (up c l) (some (l, .cred)) 0).trans (set_cred l)]; exact Finset.mem_range.mpr hn)
      ((amount_at m (up c l) (some (l, .cred)) 0 n).trans rfl) n O rfl (W := W)) $$ [Ht HO]
  · isplitr; · iapply (ctx_inv m K J (up c l) (some (l, .cred))); iexact Hc
    isplitl [HO]; · iexact HO
    isplitl [Ht]; · iexact Ht
    isplitr
    · rw [show (Rd (F := F) m).payload ((up c l : Thread nD τ), .reg (csem l)) 0 n = freedTo c l (n + 1) from
        (payload_at m (up c l) (some (l, .cred)) 0 n).trans (by show freedTo (dn (up c l) l) l (n + 1) = _; rw [dn_up])]
      iexact Hfr'
    iapply (ctx_reached m K J (up c l) (some (l, .cred))); iexact Hc
  iintro HO
  iapply Hk
  isplitl [Hrd]; · iexact Hrd
  isplitr; · iexact Hfr'
  iexists W; iexact HO

/-- Starting the copy of step `14 + j`. -/
theorem wp_outCopy' (c : Dev nD) (l : Fin 4) (j : Fin 16) (k : BProg F) (Q : PUnit → sProp 𝕄) :
    iprop(ctx m K J ∗ has (slot sg l (par j.val)) c (outV m c l j.val) ∗ any (orow c j l) c ∗ tokO c l j.val ∗ rchO c l j.val
        ∗ (crO c l j.val -∗ WP c k Q))
      ⊢ WP c (outCopy c j l k) Q := by
  unfold has any tokO rchO crO outCopy
  iintro ⟨#Hc, ⟨%fs, %hfs, Hs⟩, ⟨%fd, Hd⟩, Ht, #Hr, Hk⟩
  iapply (Rounds.wp_copy_pointsTo 𝒱₀ ER (Rd m) (c : Thread nD τ) none (κ := K (c, some (l, .st (par j.val)))) (r := j.val / 2) (d := 0)
      (sem := .dma (dsem cc0_scratch7 l (par j.val))) (fs := fs) (fd := fd) (q := fullShare)
      (by rw [show (Rd (F := F) m).duties ((c : Thread nD τ), .dma (dsem cc0_scratch7 l (par j.val))) (j.val / 2) = _ from
            (duties_at m c (some (l, .st (par j.val))) (j.val / 2)).trans (set_st l j.val j.isLt)]; exact Finset.mem_singleton_self _)
      0 NO rfl (amount_at m c (some (l, .st (par j.val))) (j.val / 2) 0)
      (by rw [show (Rd (F := F) m).payload ((c : Thread nD τ), .dma (dsem cc0_scratch7 l (par j.val))) (j.val / 2) 0 = _ from
            (payload_at m c (some (l, .st (par j.val))) (j.val / 2) 0).trans (pay_st m c l j.val), jf_of_lt j.val j.isLt]
          unfold any has; iintro ⟨Hd, Hs⟩
          isplitl [Hs]; · iexists fs; iexact Hs
          iexists ((orow c j l).view.write (Elt F) fd ((slot sg l (par j.val)).view.read (Elt F) fs) Finset.univ); isplitr
          · ipureintro; exact (View.read_write_univ _ _).trans hfs
          · iexact Hd)) $$ [Hs Hd Ht]
  · isplitr; · iapply (ctx_inv m K J c (some (l, .st (par j.val)))); iexact Hc
    isplitl [Hs]; · iexact Hs
    isplitl [Hd]; · iexact Hd
    isplitl [Ht]; · iexact Ht
    iexact Hr
  iintro Hcr
  iapply Hk; iexact Hcr

theorem wp_outCopy (c : Dev nD) (l : Fin 4) (j : ℕ) (hj : j < 16) (k : BProg F) (Q : PUnit → sProp 𝕄) :
    iprop(ctx m K J ∗ has (slot sg l (par j)) c (outV m c l j) ∗ any (orow c (jf j) l) c ∗ tokO c l j ∗ rchO c l j
        ∗ (crO c l j -∗ WP c k Q))
      ⊢ WP c (outCopy c ⟨j, hj⟩ l k) Q := by
  rw [jf_of_lt j hj]
  exact wp_outCopy' m K J c l ⟨j, hj⟩ k Q

end Cert.RingProof

end
-- ==== Proof.Moves.lean ====
/-
Reading and writing the lanes' slots, and the bookkeeping of a lane: what it holds of its transfers, its credits and its
copies to the result, and how one operation changes it.
-/
module

public import proofs.«01_k».proof.Proof.Pieces

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots -/

section Slots
variable {e : EltTy} (b : Memref sig .tc .vmem S4x2x64x2048 e) (l : Fin 4) (s : Fin 2)

theorem slot_set : (slot b l s).view.set = (b.access (slotR l s)).set := View.set_reshape _ _
theorem slot_read (f : b.view.ty.Contents (Elt F)) :
    (slot b l s).view.read (Elt F) f = shapeCast S64x2048 ((b.access (slotR l s)).read (Elt F) f) shapeCasts_S1x1x64x2048_S64x2048 := rfl
end Slots

/-- Reading a slot of the receive buffer gives what arrived in it. -/
theorem wp_loadRb (c : Dev nD) (l : Fin 4) (s : Fin 2) (v : FVec F S64x2048 .bf16) (k : Vec F S1x1x64x2048 .bf16 → BProg F) (Q : PUnit → sProp 𝕄) :
    iprop(has (slot rb l s) c v ∗ (∀ g, ⌜ofSlot g = wide v⌝ -∗ has (slot rb l s) c v -∗ WP c (k g) Q)) ⊢ WP c (loadRb l s k) Q := by
  unfold has loadRb
  rw [slot_set]
  iintro ⟨⟨%f, %hf, H⟩, Hk⟩
  iapply (wp_load_rect 𝒱₀ (c : Thread nD τ) none Set.univ (m := rb) (r := slotR l s) (q := fullShare) (f := f) (Finset.Subset.refl _)) $$ [H]
  · iexact H
  iintro H
  ispecialize Hk $$ %((rb.access (slotR l s)).read (Elt F) f)
  iapply Hk $$ [] [H]
  · ipureintro; unfold ofSlot wide; rw [← hf, slot_read]
  · iexists f; isplitr
    · ipureintro; exact hf
    · iexact H

/-- Writing a slot of the send buffer. -/
theorem wp_storeSb (c : Dev nD) (l : Fin 4) (s : Fin 2) (u : FVec F S64x2048 .f32) (k : BProg F) (Q : PUnit → sProp 𝕄) :
    iprop(any (slot sb l s) c ∗ (has (slot sb l s) c (narrow u) -∗ WP c k Q)) ⊢ WP c (storeSb l s (toSlot u) k) Q := by
  unfold any has storeSb
  rw [slot_set]
  iintro ⟨⟨%f, H⟩, Hk⟩
  iapply (wp_load_rect 𝒱₀ (c : Thread nD τ) none Set.univ (m := sb) (r := slotR l s) (q := fullShare) (f := f) (Finset.Subset.refl _)) $$ [H]
  · iexact H
  iintro H
  iapply (wp_store 𝒱₀ (c : Thread nD τ) none Set.univ (m := sb) (r := slotR l s) (Mk := Finset.univ) (f := f)
    (S := (sb.access (slotR l s)).set) (by rw [View.setOn_univ])) $$ [H]
  · iexact H
  iintro H
  iapply Hk
  iexists ((sb.access (slotR l s)).write (Elt F) f (toSlot u) Finset.univ)
  isplitr
  · ipureintro
    rw [slot_read, View.read_write_univ]
    exact shapeCast_shapeCast _ _ _
  · iexact H

/-- Writing a slot of the staging buffer. -/
theorem wp_storeSg (c : Dev nD) (l : Fin 4) (s : Fin 2) (u : FVec F S64x2048 .f32) (k : BProg F) (Q : PUnit → sProp 𝕄) :
    iprop(any (slot sg l s) c ∗ (has (slot sg l s) c u -∗ WP c k Q)) ⊢ WP c (storeSg l s (toStage u) k) Q := by
  unfold any has storeSg
  rw [slot_set]
  iintro ⟨⟨%f, H⟩, Hk⟩
  iapply (wp_load_rect 𝒱₀ (c : Thread nD τ) none Set.univ (m := sg) (r := slotR l s) (q := fullShare) (f := f) (Finset.Subset.refl _)) $$ [H]
  · iexact H
  iintro H
  iapply (wp_store 𝒱₀ (c : Thread nD τ) none Set.univ (m := sg) (r := slotR l s) (Mk := Finset.univ) (f := f)
    (S := (sg.access (slotR l s)).set) (by rw [View.setOn_univ])) $$ [H]
  · iexact H
  iintro H
  iapply Hk
  iexists ((sg.access (slotR l s)).write (Elt F) f (toStage u) Finset.univ)
  isplitr
  · ipureintro
    rw [slot_read, View.read_write_univ]
    exact shapeCast_shapeCast _ _ _
  · iexact H

/-! ## Products -/

variable (m : (ℓ : Loc nD τ sig) → Buf (Elt F) ℓ) (K : Dev nD × CK → ℕ) (J : SK → ℕ)

/-- The two buffers the products are made from. -/
def bufs (c : Dev nD) : sProp 𝕄 :=
  iprop(((c : Thread nD τ).loc cc0_scratch0 ↦{fullShare} xbuf m c) ∗ ((c : Thread nD τ).loc cc0_scratch1 ↦{fullShare} wbuf m c))

theorem wp_product (c : Dev nD) (off : Fin 2 → Nat) (h : ∀ a, off a + S64x256.size a ≤ S4096x256.size a)
    (k : FVec F S64x2048 .f32 → BProg F) (Q : PUnit → sProp 𝕄) :
    iprop(bufs m c ∗ (bufs m c -∗ WP c (k (prodAt m c off h)) Q)) ⊢ WP c (product off h k) Q := by
  unfold bufs product
  iintro ⟨⟨Hx, Hw⟩, Hk⟩
  iapply (wp_load 𝒱₀ (c : Thread nD τ) none Set.univ (m := xb) (q := fullShare) (f := xbuf m c) (Finset.subset_univ _)) $$ [Hx]
  · iexact Hx
  iintro Hx
  iapply (wp_load 𝒱₀ (c : Thread nD τ) none Set.univ (m := wb) (q := fullShare) (f := wbuf m c) (Finset.subset_univ _)) $$ [Hw]
  · iexact Hw
  iintro Hw
  iapply Hk
  isplitl [Hx]; · iexact Hx
  iexact Hw

theorem wp_products (c : Dev nD) (t : Fin 15) (k : (Fin 4 → FVec F S64x2048 .f32) → BProg F) (Q : PUnit → sProp 𝕄) :
    iprop(bufs m c ∗ (bufs m c -∗ WP c (k (partV m c t)) Q)) ⊢ WP c (products c t k) Q := by
  have e : (![partV m c t 0, partV m c t 1, partV m c t 2, partV m c t 3] : Fin 4 → FVec F S64x2048 .f32) = partV m c t := by
    funext l
    match l with
    | 0 => rfl
    | 1 => rfl
    | 2 => rfl
    | 3 => rfl
  unfold products
  iintro ⟨H, Hk⟩
  iapply (wp_product m c (xoff c t 0) (xoff_inb c t 0)) $$ [H Hk]
  isplitl [H]; · iexact H
  iintro H
  iapply (wp_product m c (xoff c t 1) (xoff_inb c t 1)) $$ [H Hk]
  isplitl [H]; · iexact H
  iintro H
  iapply (wp_product m c (xoff c t 2) (xoff_inb c t 2)) $$ [H Hk]
  isplitl [H]; · iexact H
  iintro H
  iapply (wp_product m c (xoff c t 3) (xoff_inb c t 3)) $$ [H Hk]
  isplitl [H]; · iexact H
  iintro H
  rw [show (![prodAt m c (xoff c t 0) (xoff_inb c t 0), prodAt m c (xoff c t 1) (xoff_inb c t 1), prodAt m c (xoff c t 2) (xoff_inb c t 2),
    prodAt m c (xoff c t 3) (xoff_inb c t 3)] : Fin 4 → FVec F S64x2048 .f32) = partV m c t from e]
  iapply Hk; iexact H

/-! ## A lane's holdings -/

section Holdings
variable (c : Dev nD) (l : Fin 4)

/-- Of the transfers, with that of step `t` under way. -/
def flow (t : ℕ) : sProp 𝕄 :=
  iprop(posS c l t ∗ posS c l (t + 1) ∗ posR c l t ∗ posR c l (t + 1) ∗ rchS c l (t + 1) ∗ rchR c l (t + 1) ∗ crS c l t
    ∗ bigSep (Finset.Ico t 30) (crR c l))
/-- Of the transfers, between two. -/
def rest (t : ℕ) : sProp 𝕄 :=
  iprop(posS c l t ∗ posS c l (t + 1) ∗ posR c l t ∗ posR c l (t + 1) ∗ bigSep (Finset.Ico t 30) (crR c l))
/-- What the transfers from step `t` on need: the first two slots, the waits for the credits, the tokens. -/
def pool (t : ℕ) : sProp 𝕄 :=
  iprop(bigSep (Finset.Ico t 2) (dnSlot c l) ∗ posC c l (t - 2) ∗ bigSep (Finset.Ico (t - 2) 28) (fun n => iprop(crC c l n ∗ tokW c l n))
    ∗ bigSep (Finset.Ico t 30) (fun u => iprop(tokS c l u ∗ tokR c l u)))
/-- What the credits from `n` on need. -/
def giver (n : ℕ) : sProp 𝕄 :=
  iprop(rdr c l n ∗ rdr c l (n + 1) ∗ freedTo c l n ∗ bigSep (Finset.Ico n 28) (tokC c l))
/-- Of the copies to the result, with `b` of them started and `a` of them waited for. -/
def outs (a b : ℕ) : sProp 𝕄 :=
  iprop(bigSep (Finset.Ico b 16) (fun j => iprop(tokO c l j ∗ any (orow c (jf j) l) c))
    ∗ bigSep (Finset.range a) (fun j => has (orow c (jf j) l) c (outV m c l j))
    ∗ posO c l a ∗ posO c l (a + 1) ∗ rchO c l a ∗ rchO c l (a + 1)
    ∗ bigSep (Finset.Ico a b) (crO c l) ∗ bigSep (Finset.Ico b (a + 2)) (fun s => any (slot sg l (par s)) c))
end Holdings

theorem bigSep_peel {a b : ℕ} (h : a < b) (Φ : ℕ → sProp 𝕄) : bigSep (Finset.Ico a b) Φ ⊢ iprop(Φ a ∗ bigSep (Finset.Ico (a + 1) b) Φ) :=
  Entails.of_eq (by rw [Ico_peel h, bigSep_insert (not_mem_Ico_succ a b)]; rfl)
theorem bigSep_grow {a b : ℕ} (h : a ≤ b) (Φ : ℕ → sProp 𝕄) : iprop(Φ b ∗ bigSep (Finset.Ico a b) Φ) ⊢ bigSep (Finset.Ico a (b + 1)) Φ :=
  Entails.of_eq (by
    rw [show Finset.Ico a (b + 1) = insert b (Finset.Ico a b) from by ext x; rw [Finset.mem_insert, Finset.mem_Ico, Finset.mem_Ico]; omega,
      bigSep_insert (fun h' => by have := (Finset.mem_Ico.mp h').2; omega)]; rfl)
theorem bigSep_range_grow (b : ℕ) (Φ : ℕ → sProp 𝕄) : iprop(Φ b ∗ bigSep (Finset.range b) Φ) ⊢ bigSep (Finset.range (b + 1)) Φ :=
  Entails.of_eq (by rw [Finset.range_add_one, bigSep_insert Finset.notMem_range_self]; rfl)

/-- Waiting for both ends of step `t`. -/
theorem wp_waitBoth (c : Dev nD) (l : Fin 4) (t : ℕ) (ht : t < 30) (O : CellTallies nD τ sig ℕ) (hO : Above (2 + 3 * (4 * t + l.val)) O)
    (k : BProg F) (Q : PUnit → sProp 𝕄) :
    iprop(ctx m K J ∗ flow c l t ∗ owesX c O
        ∗ ((rest c l (t + 1) ∗ rchS c l (t + 1) ∗ rchS c l (t + 2) ∗ rchR c l (t + 1) ∗ rchR c l (t + 2)
            ∗ any (src t l) c ∗ has (slot rb l (par t)) c (sentV m t (up c l) l) ∗ owesX c O) -∗ WP c k Q))
      ⊢ WP c (waitSend t l <| waitRecv t l k) Q := by
  unfold flow rest
  iintro ⟨#Hc, ⟨HS0, HS1, HR0, HR1, #Hr1, #Hq1, Hcs, Hcr⟩, HO, Hk⟩
  iapply (wp_waitSend m K J c l t ht O (hO.mono (Nat.zero_le _)))
  isplitr; · iexact Hc
  isplitl [Hcs]; · iexact Hcs
  isplitl [HS0]; · iexact HS0
  isplitl [HO]; · iexact HO
  iintro ⟨HS2, #Hr2, Hsrc, HO⟩
  ihave Hcr := (bigSep_peel ht (crR c l)) $$ Hcr
  icases Hcr with ⟨Hcr0, Hcr⟩
  iapply (wp_waitRecv m K J c l t ht O hO)
  isplitr; · iexact Hc
  isplitl [Hcr0]; · iexact Hcr0
  isplitl [HR0]; · iexact HR0
  isplitl [HO]; · iexact HO
  iintro ⟨HR2, #Hq2, Hrb, HO⟩
  iapply Hk
  isplitl [HS1 HS2 HR1 HR2 Hcr]
  · isplitl [HS1]; · iexact HS1
    isplitl [HS2]; · iexact HS2
    isplitl [HR1]; · iexact HR1
    isplitl [HR2]; · iexact HR2
    iexact Hcr
  isplitr; · iexact Hr1
  isplitr; · iexact Hr2
  isplitr; · iexact Hq1
  isplitr; · iexact Hq2
  isplitl [Hsrc]; · iexact Hsrc
  isplitl [Hrb]; · iexact Hrb
  iexact HO

/-- Giving the next credit. -/
theorem wp_give (c : Dev nD) (l : Fin 4) (n a : ℕ) (hn : n < 28) (R : CellTallies nD τ sig ℕ) (k : BProg F) (Q : PUnit → sProp 𝕄) :
    iprop(ctx m K J ∗ giver c l n ∗ any (slot rb l (par n)) c ∗ rchR c l (n + 2) ∗ owesX c (R + oweL c l a n)
        ∗ ((giver c l (n + 1) ∗ owesX c (R + oweL c l a (n + 1))) -∗ WP c k Q))
      ⊢ WP c (credit c l k) Q := by
  unfold giver
  rw [oweL_credit c l a n hn, ← add_assoc]
  iintro ⟨#Hc, ⟨Hd0, Hd1, #Hfr, Ht⟩, Hs, #Hr, HO, Hk⟩
  ihave Ht := (bigSep_peel hn (tokC c l)) $$ Ht
  icases Ht with ⟨Ht0, Ht⟩
  iapply (wp_credit m K J c l n hn (R + oweL c l a (n + 1)))
  isplitr; · iexact Hc
  isplitl [Hs]; · iexact Hs
  isplitr; · iexact Hr
  isplitl [Hd0]; · iexact Hd0
  isplitr; · iexact Hfr
  isplitl [Ht0]; · iexact Ht0
  isplitl [HO]; · iexact HO
  iintro ⟨Hd2, #Hfr', HO⟩
  iapply Hk
  isplitl [Hd1 Hd2 Ht]
  · isplitl [Hd1]; · iexact Hd1
    isplitl [Hd2]; · iexact Hd2
    isplitr; · iexact Hfr'
    iexact Ht
  iexact HO

/-- Starting the next transfer. -/
theorem wp_launch (c : Dev nD) (l : Fin 4) (t b : ℕ) (ht : t < 30) (R : CellTallies nD τ sig ℕ)
    (hO : 2 ≤ t → Above (2 + 3 * (4 * stepOf (t - 2) + l.val) + 1) (R + oweL c l t b)) (k : BProg F) (Q : PUnit → sProp 𝕄) :
    iprop(ctx m K J ∗ pool c l t ∗ has (src t l) c (sentV m t c l) ∗ rchS c l t ∗ owesX c (R + oweL c l t b)
        ∗ ((pool c l (t + 1) ∗ crS c l t ∗ owesX c (R + oweL c l (t + 1) b)) -∗ WP c k Q))
      ⊢ WP c (launch c t l k) Q := by
  have eO : R + oweL c l t b = (R + oweL c l (t + 1) b) + tallyAt (recvC (dn c l) l (par t)) t NT := by
    rw [oweL_send c l t b ht, ← add_assoc]
  unfold launch pool
  split
  · next h2 =>
    rw [eO, show t - 2 = 0 by omega, show t + 1 - 2 = 0 by omega]
    iintro ⟨#Hc, ⟨Hsl, Hp, Hcr, Ht⟩, Hs, #Hr, HO, Hk⟩
    ihave Hsl := (bigSep_peel h2 (dnSlot c l)) $$ Hsl
    icases Hsl with ⟨Hsl0, Hsl⟩
    ihave Ht := (bigSep_peel ht (fun u => iprop(tokS c l u ∗ tokR c l u))) $$ Ht
    icases Ht with ⟨⟨HtS, HtR⟩, Ht⟩
    iapply (wp_sendDma m K J c l t ht (R + oweL c l (t + 1) b))
    isplitr; · iexact Hc
    isplitl [Hs]; · iexact Hs
    isplitl [Hsl0]; · iexact Hsl0
    isplitl [HtS]; · iexact HtS
    isplitr; · iexact Hr
    isplitl [HtR]; · iexact HtR
    isplitl [HO]; · iexact HO
    iintro ⟨Hcs, HO⟩
    iapply Hk
    isplitl [Hsl Hp Hcr Ht]
    · isplitl [Hsl]; · iexact Hsl
      isplitl [Hp]; · iexact Hp
      isplitl [Hcr]; · iexact Hcr
      iexact Ht
    isplitl [Hcs]; · iexact Hcs
    iexact HO
  · next h2 =>
    obtain ⟨n, rfl⟩ : ∃ n, t = n + 2 := ⟨t - 2, by omega⟩
    rw [show n + 2 - 2 = n by omega, show n + 2 + 1 - 2 = n + 1 by omega]
    iintro ⟨#Hc, ⟨-, Hp, Hcr, Ht⟩, Hs, #Hr, HO, Hk⟩
    ihave Hcr := (bigSep_peel (show n < 28 by omega) (fun n => iprop(crC c l n ∗ tokW c l n))) $$ Hcr
    icases Hcr with ⟨⟨Hc0, Hw0⟩, Hcr⟩
    ihave Ht := (bigSep_peel ht (fun u => iprop(tokS c l u ∗ tokR c l u))) $$ Ht
    icases Ht with ⟨⟨HtS, HtR⟩, Ht⟩
    iapply (wp_waitCred m K J c l n (by omega) (R + oweL c l (n + 2) b) (hO (by omega)))
    isplitr; · iexact Hc
    isplitl [Hc0]; · iexact Hc0
    isplitl [Hp]; · iexact Hp
    isplitl [Hw0]; · iexact Hw0
    isplitl [HO]; · iexact HO
    iintro ⟨Hp, Hsl0, HO⟩
    rw [eO]
    iapply (wp_sendDma m K J c l (n + 2) ht (R + oweL c l (n + 2 + 1) b))
    isplitr; · iexact Hc
    isplitl [Hs]; · iexact Hs
    isplitl [Hsl0]; · iexact Hsl0
    isplitl [HtS]; · iexact HtS
    isplitr; · iexact Hr
    isplitl [HtR]; · iexact HtR
    isplitl [HO]; · iexact HO
    iintro ⟨Hcs, HO⟩
    iapply Hk
    isplitl [Hp Hcr Ht]
    · isplitr; · rw [Finset.Ico_eq_empty (by omega), bigSep_empty]; iempintro
      isplitl [Hp]; · iexact Hp
      isplitl [Hcr]; · iexact Hcr
      iexact Ht
    isplitl [Hcs]; · iexact Hcs
    iexact HO

/-- Waiting for the oldest copy. -/
theorem wp_collect (c : Dev nD) (l : Fin 4) (a b : ℕ) (hab : a < b) (hb : b ≤ a + 2) (h16 : b ≤ 16) (ha : a < 16) (O : CellTallies nD τ sig ℕ) (hO : Above 0 O)
    (k : BProg F) (Q : PUnit → sProp 𝕄) :
    iprop(ctx m K J ∗ outs m c l a b ∗ owesX c O ∗ ((outs m c l (a + 1) b ∗ owesX c O) -∗ WP c k Q)) ⊢ WP c (waitOut c ⟨a, ha⟩ l k) Q := by
  unfold outs
  iintro ⟨#Hc, ⟨Ht, Hrows, HP0, HP1, -, #Hq1, Hcr, Hsl⟩, HO, Hk⟩
  ihave Hcr := (bigSep_peel hab (crO c l)) $$ Hcr
  icases Hcr with ⟨Hcr0, Hcr⟩
  iapply (wp_waitOut m K J c l a ha O hO)
  isplitr; · iexact Hc
  isplitl [Hcr0]; · iexact Hcr0
  isplitl [HP0]; · iexact HP0
  isplitl [HO]; · iexact HO
  iintro ⟨HP2, #Hq2, ⟨Hs, Hrow⟩, HO⟩
  iapply Hk
  isplitl [Ht Hrows HP1 HP2 Hcr Hsl Hs Hrow]
  · isplitl [Ht]; · iexact Ht
    isplitl [Hrows Hrow]
    · iapply (bigSep_range_grow a fun j => has (orow c (jf j) l) c (outV m c l j))
      isplitl [Hrow]; · iexact Hrow
      iexact Hrows
    isplitl [HP1]; · iexact HP1
    isplitl [HP2]; · iexact HP2
    isplitr; · iexact Hq1
    isplitr; · iexact Hq2
    isplitl [Hcr]; · iexact Hcr
    iapply (bigSep_grow hb fun s => any (slot sg l (par s)) c)
    isplitl [Hs]; · rw [par_add_two]; iexact Hs
    iexact Hsl
  iexact HO

/-- Staging and starting the next copy. -/
theorem wp_emit (c : Dev nD) (l : Fin 4) (a b : ℕ) (hab : a ≤ b) (hb : b < a + 2) (h16 : b < 16) (u : FVec F S64x2048 .f32) (hu : u = outV m c l b)
    (k : BProg F) (Q : PUnit → sProp 𝕄) :
    iprop(ctx m K J ∗ outs m c l a b ∗ (outs m c l a (b + 1) -∗ WP c k Q)) ⊢ WP c (storeSg l (par b) (toStage u) <| outCopy c ⟨b, h16⟩ l k) Q := by
  subst hu
  have hr : iprop(rchO c l a ∗ rchO c l (a + 1)) ⊢ (rchO c l b : sProp 𝕄) := by
    rcases (show b = a ∨ b = a + 1 by omega) with h | h
    · rw [h]; iintro ⟨H, -⟩; iexact H
    · rw [h]; iintro ⟨-, H⟩; iexact H
  unfold outs
  iintro ⟨#Hc, ⟨Ht, Hrows, HP0, HP1, #Hq0, #Hq1, Hcr, Hsl⟩, Hk⟩
  ihave Ht := (bigSep_peel h16 (fun j => iprop(tokO c l j ∗ any (orow c (jf j) l) c))) $$ Ht
  icases Ht with ⟨⟨Ht0, Hrow⟩, Ht⟩
  ihave Hsl := (bigSep_peel hb (fun s => any (slot sg l (par s)) c)) $$ Hsl
  icases Hsl with ⟨Hs, Hsl⟩
  iapply (wp_storeSg c l (par b) (outV m c l b))
  isplitl [Hs]; · iexact Hs
  iintro Hs
  iapply (wp_outCopy m K J c l b h16)
  isplitr; · iexact Hc
  isplitl [Hs]; · iexact Hs
  isplitl [Hrow]; · iexact Hrow
  isplitl [Ht0]; · iexact Ht0
  isplitr
  · iapply hr; isplitr; · iexact Hq0
    iexact Hq1
  iintro Hcr0
  iapply Hk
  isplitl [Ht]; · iexact Ht
  isplitl [Hrows]; · iexact Hrows
  isplitl [HP0]; · iexact HP0
  isplitl [HP1]; · iexact HP1
  isplitr; · iexact Hq0
  isplitr; · iexact Hq1
  isplitl [Hcr Hcr0]
  · iapply (bigSep_grow hab (crO c l))
    isplitl [Hcr0]; · iexact Hcr0
    iexact Hcr
  iexact Hsl

end Cert.RingProof

end
-- ==== Proof.Step.lean ====
/-
A lane's step, a row of four steps, and all thirty rows.
-/
module

public import proofs.«01_k».proof.Proof.Moves

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ) (J : SK → ℕ)

/-! ## What a lane holds before a step -/

/-- The credits given before step `t`. -/
def nc (t : ℕ) : ℕ := if t ≤ 15 then t else t - 1

theorem nc_low {t : ℕ} (h : t ≤ 15) : nc t = t := if_pos h
theorem nc_high (t : ℕ) : nc (15 + t) = if t = 0 then 15 else 14 + t := by unfold nc; split <;> split <;> omega

/-- The free slots of the send buffer before step `t`. -/
def spare (c : Dev nD) (l : Fin 4) (t : ℕ) : sProp 𝕄 :=
  if t ≤ 15 then any (slot sb l (par (t + 1))) c else iprop(any (slot sb l (par t)) c ∗ any (slot sb l (par (t + 1))) c)

theorem spare_low (c : Dev nD) (l : Fin 4) {t : ℕ} (h : t ≤ 15) : spare (F := F) c l t = any (slot sb l (par (t + 1))) c := if_pos h
theorem spare_high (c : Dev nD) (l : Fin 4) {t : ℕ} (h : ¬t ≤ 15) :
    spare (F := F) c l t = iprop(any (slot sb l (par t)) c ∗ any (slot sb l (par (t + 1))) c) := if_neg h

/-- What lane `l` of device `c` holds before step `t`. -/
def lane (c : Dev nD) (l : Fin 4) (t : ℕ) : sProp 𝕄 :=
  iprop(flow c l t ∗ pool c l (t + 1) ∗ giver c l (nc t) ∗ outs m c l (t - 16) (t - 14) ∗ spare c l t)

/-- What it holds after the last step. -/
def laneEnd (c : Dev nD) (l : Fin 4) : sProp 𝕄 :=
  iprop(rest c l 30 ∗ pool c l 30 ∗ giver c l 28 ∗ outs m c l 14 16
    ∗ (any (slot sb l 0) c ∗ any (slot sb l 1) c) ∗ (any (slot rb l 0) c ∗ any (slot rb l 1) c))

theorem src_low (l : Fin 4) {t : ℕ} (h : t < 16) : src t l = slot sb l (par t) := if_pos h
theorem src_high (l : Fin 4) {t : ℕ} (h : ¬t < 16) : src t l = slot rb l (par (t + 1)) := if_neg h

theorem sent_add (c : Dev nD) (l : Fin 4) (t : ℕ) (h : t < 14) :
    sentV m (t + 1) c l = narrow (addf (partV m c ⟨t, by omega⟩ l) (wide (sentV m t (up c l) l))) := by rw [sentV, dif_pos h]
theorem sent_act (c : Dev nD) (l : Fin 4) :
    sentV m 15 c l = narrow (act (addf (partV m c 14 l) (wide (sentV m 14 (up c l) l)))) := by rw [sentV, dif_neg (by omega), if_pos rfl]
theorem sent_pass (c : Dev nD) (l : Fin 4) (t : ℕ) (h : 14 < t) : sentV m (t + 1) c l = sentV m t (up c l) l := by
  rw [sentV, dif_neg (by omega), if_neg (by omega)]

/-! ## Steps -/

/-- After step `t`'s waits, the flow with step `t + 1` under way. -/
theorem flow_intro (c : Dev nD) (l : Fin 4) (t : ℕ) :
    iprop(rest c l t ∗ rchS c l (t + 1) ∗ rchR c l (t + 1) ∗ crS c l t) ⊢ flow (F := F) c l t := by
  unfold rest flow
  iintro ⟨⟨H1, H2, H3, H4, H5⟩, H6, H7, H8⟩
  isplitl [H1]; · iexact H1
  isplitl [H2]; · iexact H2
  isplitl [H3]; · iexact H3
  isplitl [H4]; · iexact H4
  isplitl [H6]; · iexact H6
  isplitl [H7]; · iexact H7
  isplitl [H8]; · iexact H8
  iexact H5

variable (c : Dev nD) (l : Fin 4)

/-- A step that adds this device's product and sends the sum on. -/
theorem wp_step_add (t : ℕ) (ht : t < 14) (R : CellTallies nD τ sig ℕ) (hR : Above (2 + 3 * (4 * t + l.val) + 1) R)
    (k : BProg F) (Q : PUnit → sProp 𝕄) :
    iprop(ctx m K J ∗ lane m c l t ∗ owesX c (R + oweL c l (t + 1) (nc t))
        ∗ ((lane m c l (t + 1) ∗ owesX c (R + oweL c l (t + 2) (nc (t + 1)))) -∗ WP c k Q))
      ⊢ WP c (waitSend t l <| waitRecv t l <|
          loadRb l (par t) fun g => storeSb l (par (t + 1)) (toSlot (addf (partV m c ⟨t, by omega⟩ l) (ofSlot g))) <| credit c l <| launch c (t + 1) l k) Q := by
  unfold lane
  rw [nc_low (show t ≤ 15 by omega), nc_low (show t + 1 ≤ 15 by omega), spare_low c l (show t ≤ 15 by omega), spare_low c l (show t + 1 ≤ 15 by omega),
    par_add_two, show t - 16 = 0 by omega, show t - 14 = 0 by omega, show t + 1 - 16 = 0 by omega, show t + 1 - 14 = 0 by omega]
  iintro ⟨#Hc, ⟨Hf, Hp, Hg, Ho, Hsp⟩, HO, Hk⟩
  iapply (wp_waitBoth m K J c l t (by omega) (R + oweL c l (t + 1) t) ((hR.mono (by omega)).add (oweL_above c l _ _ _ (by omega) (by unfold stepOf; split <;> omega))))
  isplitr; · iexact Hc
  isplitl [Hf]; · iexact Hf
  isplitl [HO]; · iexact HO
  iintro ⟨Hf, #HS1, #HS2, #HR1, #HR2, Hsrc, Hrb, HO⟩
  rw [src_low l (show t < 16 by omega)]
  iapply (wp_loadRb c l (par t) (sentV m t (up c l) l))
  isplitl [Hrb]; · iexact Hrb
  iintro %g %hg Hrb
  iapply (wp_storeSb c l (par (t + 1)))
  isplitl [Hsp]; · iexact Hsp
  iintro Hsb
  iapply (wp_give m K J c l t (t + 1) (by omega) R)
  isplitr; · iexact Hc
  isplitl [Hg]; · iexact Hg
  isplitl [Hrb]; · iapply (has_any (slot rb l (par t)) c (sentV m t (up c l) l)); iexact Hrb
  isplitr; · iexact HR2
  isplitl [HO]; · iexact HO
  iintro ⟨Hg, HO⟩
  iapply (wp_launch m K J c l (t + 1) (t + 1) (by omega) R (fun _ => (hR.mono (by unfold stepOf; split <;> omega)).add
    (oweL_above c l _ _ _ (by unfold stepOf; split <;> omega) (by unfold stepOf; split <;> split <;> omega))))
  isplitr; · iexact Hc
  isplitl [Hp]; · iexact Hp
  isplitl [Hsb]; · rw [src_low l (show t + 1 < 16 by omega), sent_add m c l t ht, ← hg]; iexact Hsb
  isplitr; · iexact HS1
  isplitl [HO]; · iexact HO
  iintro ⟨Hp, Hcs, HO⟩
  iapply Hk
  isplitr [HO]
  · isplitl [Hf Hcs]
    · iapply (flow_intro c l (t + 1))
      isplitl [Hf]; · iexact Hf
      isplitr; · iexact HS2
      isplitr; · iexact HR2
      iexact Hcs
    isplitl [Hp]; · iexact Hp
    isplitl [Hg]; · iexact Hg
    isplitl [Ho]; · iexact Ho
    iexact Hsrc
  iexact HO

/-- The step that completes the sum: its activation goes to the result and on to the next device. -/
theorem wp_step_act (R : CellTallies nD τ sig ℕ) (hR : Above (2 + 3 * (4 * 14 + l.val) + 1) R)
    (k : BProg F) (Q : PUnit → sProp 𝕄) :
    iprop(ctx m K J ∗ lane m c l 14 ∗ owesX c (R + oweL c l 15 (nc 14))
        ∗ ((lane m c l 15 ∗ owesX c (R + oweL c l 16 (nc 15))) -∗ WP c k Q))
      ⊢ WP c (waitSend 14 l <| waitRecv 14 l <|
          loadRb l (par 14) fun g => storeSb l (par (14 + 1)) (toSlot (act (addf (partV m c 14 l) (ofSlot g)))) <|
            storeSg l (par 0) (toStage (act (addf (partV m c 14 l) (ofSlot g)))) <| outCopy c ⟨0, by omega⟩ l <| credit c l <| launch c 15 l k) Q := by
  unfold lane
  rw [nc_low (show 14 ≤ 15 by omega), nc_low (show 15 ≤ 15 by omega), spare_low c l (show 14 ≤ 15 by omega), spare_low c l (show 15 ≤ 15 by omega)]
  iintro ⟨#Hc, ⟨Hf, Hp, Hg, Ho, Hsp⟩, HO, Hk⟩
  iapply (wp_waitBoth m K J c l 14 (by omega) (R + oweL c l 15 14) ((hR.mono (by omega)).add (oweL_above c l _ _ _ (by omega) (by unfold stepOf; split <;> omega))))
  isplitr; · iexact Hc
  isplitl [Hf]; · iexact Hf
  isplitl [HO]; · iexact HO
  iintro ⟨Hf, #HS1, #HS2, #HR1, #HR2, Hsrc, Hrb, HO⟩
  rw [src_low l (show 14 < 16 by omega)]
  iapply (wp_loadRb c l (par 14) (sentV m 14 (up c l) l))
  isplitl [Hrb]; · iexact Hrb
  iintro %g %hg Hrb
  iapply (wp_storeSb c l (par (14 + 1)))
  isplitl [Hsp]; · iexact Hsp
  iintro Hsb
  iapply (wp_emit m K J c l 0 0 (by omega) (by omega) _ (act (addf (partV m c 14 l) (ofSlot g))) (by rw [hg]; rfl))
  isplitr; · iexact Hc
  isplitl [Ho]; · iexact Ho
  iintro Ho
  iapply (wp_give m K J c l 14 15 (by omega) R)
  isplitr; · iexact Hc
  isplitl [Hg]; · iexact Hg
  isplitl [Hrb]; · iapply (has_any (slot rb l (par 14)) c (sentV m 14 (up c l) l)); iexact Hrb
  isplitr; · iexact HR2
  isplitl [HO]; · iexact HO
  iintro ⟨Hg, HO⟩
  iapply (wp_launch m K J c l 15 15 (by omega) R (fun _ => (hR.mono (by unfold stepOf; split <;> omega)).add
    (oweL_above c l _ _ _ (by unfold stepOf; split <;> omega) (by unfold stepOf; split <;> split <;> omega))))
  isplitr; · iexact Hc
  isplitl [Hp]; · iexact Hp
  isplitl [Hsb]; · rw [src_low l (show 15 < 16 by omega), sent_act m c l, ← hg]; iexact Hsb
  isplitr; · iexact HS1
  isplitl [HO]; · iexact HO
  iintro ⟨Hp, Hcs, HO⟩
  iapply Hk
  isplitr [HO]
  · isplitl [Hf Hcs]
    · iapply (flow_intro c l 15)
      isplitl [Hf]; · iexact Hf
      isplitr; · iexact HS2
      isplitr; · iexact HR2
      iexact Hcs
    isplitl [Hp]; · iexact Hp
    isplitl [Hg]; · iexact Hg
    isplitl [Ho]; · iexact Ho
    iexact Hsrc
  iexact HO

/-- The first step that passes on what it received. -/
theorem wp_step_turn (R : CellTallies nD τ sig ℕ) (hR : Above (2 + 3 * (4 * 15 + l.val) + 1) R)
    (k : BProg F) (Q : PUnit → sProp 𝕄) :
    iprop(ctx m K J ∗ lane m c l 15 ∗ owesX c (R + oweL c l 16 (nc 15))
        ∗ ((lane m c l 16 ∗ owesX c (R + oweL c l 17 (nc 16))) -∗ WP c k Q))
      ⊢ WP c (waitSend 15 l <| waitRecv 15 l <|
          loadRb l (par 15) fun g => storeSg l (par 1) (toStage (ofSlot g)) <| outCopy c ⟨1, by omega⟩ l <| launch c 16 l k) Q := by
  unfold lane
  rw [nc_low (show 15 ≤ 15 by omega), show nc 16 = 15 from rfl, spare_low c l (show 15 ≤ 15 by omega), spare_high c l (show ¬16 ≤ 15 by omega)]
  iintro ⟨#Hc, ⟨Hf, Hp, Hg, Ho, Hsp⟩, HO, Hk⟩
  iapply (wp_waitBoth m K J c l 15 (by omega) (R + oweL c l 16 15) ((hR.mono (by omega)).add (oweL_above c l _ _ _ (by omega) (by unfold stepOf; split <;> omega))))
  isplitr; · iexact Hc
  isplitl [Hf]; · iexact Hf
  isplitl [HO]; · iexact HO
  iintro ⟨Hf, #HS1, #HS2, #HR1, #HR2, Hsrc, Hrb, HO⟩
  rw [src_low l (show 15 < 16 by omega)]
  iapply (wp_loadRb c l (par 15) (sentV m 15 (up c l) l))
  isplitl [Hrb]; · iexact Hrb
  iintro %g %hg Hrb
  iapply (wp_emit m K J c l 0 1 (by omega) (by omega) _ (ofSlot g) (by rw [hg]; rfl))
  isplitr; · iexact Hc
  isplitl [Ho]; · iexact Ho
  iintro Ho
  iapply (wp_launch m K J c l 16 15 (by omega) R (fun _ => (hR.mono (by unfold stepOf; split <;> omega)).add
    (oweL_above c l _ _ _ (by unfold stepOf; split <;> omega) (by unfold stepOf; split <;> split <;> omega))))
  isplitr; · iexact Hc
  isplitl [Hp]; · iexact Hp
  isplitl [Hrb]; · rw [src_high l (show ¬16 < 16 by omega), sent_pass m c l 15 (by omega)]; iexact Hrb
  isplitr; · iexact HS1
  isplitl [HO]; · iexact HO
  iintro ⟨Hp, Hcs, HO⟩
  iapply Hk
  isplitr [HO]
  · isplitl [Hf Hcs]
    · iapply (flow_intro c l 16)
      isplitl [Hf]; · iexact Hf
      isplitr; · iexact HS2
      isplitr; · iexact HR2
      iexact Hcs
    isplitl [Hp]; · iexact Hp
    isplitl [Hg]; · iexact Hg
    isplitl [Ho]; · iexact Ho
    isplitl [Hsp]; · iexact Hsp
    iexact Hsrc
  iexact HO

/-- Step `n + 1`, a later one, which passes on what it received; `j` counts the blocks of the result before it. -/
theorem wp_step_pass (n j : ℕ) (hj : n = 15 + j) (hn : n < 28) (R : CellTallies nD τ sig ℕ) (hR : Above (2 + 3 * (4 * (n + 1) + l.val) + 1) R)
    (k : BProg F) (Q : PUnit → sProp 𝕄) (h₁ : j < 16) (h₂ : j + 2 < 16) (h₃ : n + 2 < 30) :
    iprop(ctx m K J ∗ (flow c l (n + 1) ∗ pool c l (n + 2) ∗ giver c l n ∗ outs m c l j (j + 2) ∗ any (slot sb l (par (n + 1))) c ∗ any (slot sb l (par n)) c)
        ∗ owesX c (R + oweL c l (n + 2) n)
        ∗ (((flow c l (n + 2) ∗ pool c l (n + 3) ∗ giver c l (n + 1) ∗ outs m c l (j + 1) (j + 3) ∗ any (slot sb l (par n)) c ∗ any (slot sb l (par (n + 1))) c)
          ∗ owesX c (R + oweL c l (n + 3) (n + 1))) -∗ WP c k Q))
      ⊢ WP c (waitSend (n + 1) l <| waitRecv (n + 1) l <| credit c l <| loadRb l (par (n + 1)) fun g => waitOut c ⟨j, h₁⟩ l <|
          storeSg l (par (j + 2)) (toStage (ofSlot g)) <| outCopy c ⟨j + 2, h₂⟩ l <| launch c (n + 2) l k) Q := by
  have hO₀ : Above (2 + 3 * (4 * (n + 1) + l.val)) (R + oweL c l (n + 2) n) :=
    (hR.mono (by omega)).add (oweL_above c l _ _ _ (by omega) (by unfold stepOf; split <;> omega))
  have hO : Above (2 + 3 * (4 * (n + 1) + l.val) + 1) (R + oweL c l (n + 2) (n + 1)) :=
    hR.add (oweL_above c l _ _ _ (by omega) (by unfold stepOf; split <;> omega))
  have es : src (n + 1) l = slot rb l (par n) := by rw [src_high l (show ¬n + 1 < 16 by omega), par_add_two]
  have es' : src (n + 2) l = slot rb l (par (n + 1)) := by rw [src_high l (show ¬n + 2 < 16 by omega), par_add_two]
  have ev : wide (sentV m (n + 1) (up c l) l) = outV m c l (j + 2) := by
    subst hj; show _ = wide (sentV m (14 + (j + 2)) (up c l) l); rw [show 14 + (j + 2) = 15 + j + 1 by omega]
  iintro ⟨#Hc, ⟨Hf, Hp, Hg, Ho, Hsp0, Hsp1⟩, HO, Hk⟩
  iapply (wp_waitBoth m K J c l (n + 1) (by omega) (R + oweL c l (n + 2) n) hO₀)
  isplitr; · iexact Hc
  isplitl [Hf]; · iexact Hf
  isplitl [HO]; · iexact HO
  iintro ⟨Hf, #HS1, #HS2, #HR1, #HR2, Hsrc, Hrb, HO⟩
  rw [es]
  iapply (wp_give m K J c l n (n + 2) (by omega) R)
  isplitr; · iexact Hc
  isplitl [Hg]; · iexact Hg
  isplitl [Hsrc]; · iexact Hsrc
  isplitr; · iexact HR1
  isplitl [HO]; · iexact HO
  iintro ⟨Hg, HO⟩
  iapply (wp_loadRb c l (par (n + 1)) (sentV m (n + 1) (up c l) l))
  isplitl [Hrb]; · iexact Hrb
  iintro %g %hg Hrb
  iapply (wp_collect m K J c l j (j + 2) (by omega) (by omega) (by omega) _ (R + oweL c l (n + 2) (n + 1)) (hO.mono (Nat.zero_le _)))
  isplitr; · iexact Hc
  isplitl [Ho]; · iexact Ho
  isplitl [HO]; · iexact HO
  iintro ⟨Ho, HO⟩
  iapply (wp_emit m K J c l (j + 1) (j + 2) (by omega) (by omega) _ (ofSlot g) (hg.trans ev))
  isplitr; · iexact Hc
  isplitl [Ho]; · iexact Ho
  iintro Ho
  iapply (wp_launch m K J c l (n + 2) (n + 1) (by omega) R (fun _ => hO.mono (by unfold stepOf; split <;> omega)))
  isplitr; · iexact Hc
  isplitl [Hp]; · iexact Hp
  isplitl [Hrb]
  · rw [es', sent_pass m c l (n + 1) (by omega)]; iexact Hrb
  isplitr; · iexact HS1
  isplitl [HO]; · iexact HO
  iintro ⟨Hp, Hcs, HO⟩
  iapply Hk
  isplitr [HO]
  · isplitl [Hf Hcs]
    · iapply (flow_intro c l (n + 2))
      isplitl [Hf]; · iexact Hf
      isplitr; · iexact HS2
      isplitr; · iexact HR2
      iexact Hcs
    isplitl [Hp]; · iexact Hp
    isplitl [Hg]; · iexact Hg
    isplitl [Ho]; · iexact Ho
    isplitl [Hsp1]; · iexact Hsp1
    iexact Hsp0
  iexact HO

/-- The last step. -/
theorem wp_step_last (R : CellTallies nD τ sig ℕ) (hR : Above (2 + 3 * (4 * 29 + l.val) + 1) R)
    (k : BProg F) (Q : PUnit → sProp 𝕄) :
    iprop(ctx m K J ∗ lane m c l 29 ∗ owesX c (R + oweL c l 30 28)
        ∗ ((laneEnd m c l ∗ owesX c (R + oweL c l 30 28)) -∗ WP c k Q))
      ⊢ WP c (waitSend 29 l <| waitRecv 29 l <| loadRb l (par 29) fun g => waitOut c ⟨13, by omega⟩ l <|
          storeSg l (par 15) (toStage (ofSlot g)) <| outCopy c ⟨15, by omega⟩ l k) Q := by
  unfold lane laneEnd
  rw [spare_high c l (show ¬29 ≤ 15 by omega), show nc 29 = 28 from rfl]
  have hO : Above (2 + 3 * (4 * 29 + l.val)) (R + oweL c l 30 28) := (hR.mono (by omega)).add (oweL_above c l _ _ _ (by omega) (by unfold stepOf; split <;> omega))
  iintro ⟨#Hc, ⟨Hf, Hp, Hg, Ho, Hsp0, Hsp1⟩, HO, Hk⟩
  iapply (wp_waitBoth m K J c l 29 (by omega) (R + oweL c l 30 28) hO)
  isplitr; · iexact Hc
  isplitl [Hf]; · iexact Hf
  isplitl [HO]; · iexact HO
  iintro ⟨Hf, #HS1, #HS2, #HR1, #HR2, Hsrc, Hrb, HO⟩
  rw [src_high l (show ¬29 < 16 by omega)]
  iapply (wp_loadRb c l (par 29) (sentV m 29 (up c l) l))
  isplitl [Hrb]; · iexact Hrb
  iintro %g %hg Hrb
  iapply (wp_collect m K J c l 13 15 (by omega) (by omega) (by omega) _ (R + oweL c l 30 28) (hO.mono (Nat.zero_le _)))
  isplitr; · iexact Hc
  isplitl [Ho]; · iexact Ho
  isplitl [HO]; · iexact HO
  iintro ⟨Ho, HO⟩
  iapply (wp_emit m K J c l 14 15 (by omega) (by omega) _ (ofSlot g) (by rw [hg]; rfl))
  isplitr; · iexact Hc
  isplitl [Ho]; · iexact Ho
  iintro Ho
  iapply Hk
  isplitr [HO]
  · isplitl [Hf]; · iexact Hf
    isplitl [Hp]; · iexact Hp
    isplitl [Hg]; · iexact Hg
    isplitl [Ho]; · iexact Ho
    isplitl [Hsp0 Hsp1]
    · isplitl [Hsp1]; · iexact Hsp1
      iexact Hsp0
    isplitl [Hsrc]; · iexact Hsrc
    iapply (has_any (slot rb l (par 29)) c (sentV m 29 (up c l) l)); iexact Hrb
  iexact HO

/-! ## One statement for every step -/

/-- What a lane holds before step `t`, the end included. -/
def laneAt (t : ℕ) : sProp 𝕄 := if t < 30 then lane m c l t else laneEnd m c l
/-- What it then owes. -/
def oweAt (t : ℕ) : CellTallies nD τ sig ℕ := if t < 29 then oweL c l (t + 1) (nc t) else oweL c l 30 28

theorem laneAt_lt {t : ℕ} (h : t < 30) : laneAt m c l t = lane m c l t := if_pos h
theorem laneAt_end : laneAt m c l 30 = laneEnd m c l := if_neg (by omega)
theorem oweAt_lt {t : ℕ} (h : t < 29) : oweAt c l t = oweL c l (t + 1) (nc t) := if_pos h
theorem oweAt_ge {t : ℕ} (h : ¬t < 29) : oweAt c l t = oweL c l 30 28 := if_neg h
theorem oweAt_le {t : ℕ} (h : t < 30) : oweAt c l t = oweL c l (t + 1) (nc t) := by
  rcases (show t < 29 ∨ t = 29 by omega) with h' | rfl
  · exact oweAt_lt c l h'
  · rfl

theorem oweAt_above (t n : ℕ) (h : n < 2 + 3 * (4 * t + l.val) + 1) : Above n (oweAt c l t) := by
  unfold oweAt
  split
  · refine oweL_above c l _ _ _ (by omega) ?_
    unfold stepOf nc; split <;> split <;> omega
  · next h' =>
    unfold oweL
    rw [Finset.Ico_eq_empty (by omega), Finset.Ico_eq_empty (by omega), Finset.sum_empty, Finset.sum_empty, add_zero]
    exact Above.zero n

/-- Step `t` of lane `l`, whatever it does. -/
theorem wp_laneStep (t : ℕ) (ht : t < 30) (R : CellTallies nD τ sig ℕ) (hR : Above (2 + 3 * (4 * t + l.val) + 1) R)
    (nx : FVec F S64x2048 .f32) (hnx : ∀ h : t < 15, nx = partV m c ⟨t, h⟩ l) (k : BProg F) (Q : PUnit → sProp 𝕄) :
    iprop(ctx m K J ∗ laneAt m c l t ∗ owesX c (R + oweAt c l t)
        ∗ ((laneAt m c l (t + 1) ∗ owesX c (R + oweAt c l (t + 1))) -∗ WP c k Q))
      ⊢ WP c (laneStep c t ht l nx k) Q := by
  unfold laneStep
  rw [laneAt_lt m c l ht]
  rcases (show t < 14 ∨ t = 14 ∨ t = 15 ∨ (16 ≤ t ∧ t < 29) ∨ t = 29 by omega) with h | rfl | rfl | h | rfl
  · rw [laneAt_lt m c l (show t + 1 < 30 by omega), oweAt_le c l ht, oweAt_le c l (show t + 1 < 30 by omega), dif_pos h, hnx (by omega)]
    exact wp_step_add m K J c l t h R hR k Q
  · rw [laneAt_lt m c l (show 14 + 1 < 30 by omega), oweAt_le c l ht, oweAt_le c l (show 14 + 1 < 30 by omega), hnx (by omega)]
    exact wp_step_act m K J c l R hR k Q
  · rw [laneAt_lt m c l (show 15 + 1 < 30 by omega), oweAt_le c l ht, oweAt_le c l (show 15 + 1 < 30 by omega)]
    exact wp_step_turn m K J c l R hR k Q
  · rw [laneAt_lt m c l (show t + 1 < 30 by omega), oweAt_le c l ht, oweAt_le c l (show t + 1 < 30 by omega), dif_neg (by omega), if_neg (by omega), if_neg (by omega),
      if_pos (by omega)]
    obtain ⟨j, hj⟩ : ∃ j, t = 15 + j + 1 := ⟨t - 16, by omega⟩
    obtain ⟨n, hn⟩ : ∃ n, n = 15 + j := ⟨_, rfl⟩
    rw [← hn] at hj
    have e₁ : t - 16 = j := by omega
    have e₂ : t - 14 = j + 2 := by omega
    subst hj
    have e₃ : n + 1 + 1 - 16 = j + 1 := by omega
    have e₄ : n + 1 + 1 - 14 = j + 3 := by omega
    have e₅ : nc (n + 1) = n := by unfold nc; rw [if_neg (by omega)]; omega
    have e₆ : nc (n + 1 + 1) = n + 1 := by unfold nc; rw [if_neg (by omega)]; omega
    unfold lane
    rw [spare_high c l (show ¬n + 1 ≤ 15 by omega), spare_high c l (show ¬n + 1 + 1 ≤ 15 by omega), e₃, e₄, e₅, e₆]
    simp only [e₁, e₂]
    have := wp_step_pass m K J c l n j hn (by omega) R hR k Q (by omega) (by omega) (by omega)
    simp only [par_add_two] at this ⊢
    exact this
  · rw [oweAt_ge c l (show ¬29 < 29 by omega), oweAt_ge c l (show ¬29 + 1 < 29 by omega), show laneAt m c l (29 + 1) = laneEnd m c l from laneAt_end m c l]
    exact wp_step_last m K J c l R hR k Q

/-! ## Rows -/

/-- The four lanes before row `t`, and the buffers they multiply from. -/
def lanes (t : ℕ) : sProp 𝕄 := iprop(laneAt m c 0 t ∗ laneAt m c 1 t ∗ laneAt m c 2 t ∗ laneAt m c 3 t)
def oweAll (t : ℕ) : CellTallies nD τ sig ℕ := ((oweAt c 0 t + oweAt c 1 t) + oweAt c 2 t) + oweAt c 3 t

theorem wp_row (t : ℕ) (ht : t < 30) (nx : Fin 4 → FVec F S64x2048 .f32) (hnx : ∀ h : t < 15, nx = partV m c ⟨t, h⟩) (k : BProg F) (Q : PUnit → sProp 𝕄) :
    iprop(ctx m K J ∗ lanes m c t ∗ owesX c (oweAll c t) ∗ ((lanes m c (t + 1) ∗ owesX c (oweAll c (t + 1))) -∗ WP c k Q))
      ⊢ WP c (row c t ht nx k) Q := by
  have hx (l : Fin 4) : ∀ h : t < 15, nx l = partV m c ⟨t, h⟩ l := fun h => congrFun (hnx h) l
  have e0 : oweAll c t = ((oweAt c 1 t + oweAt c 2 t) + oweAt c 3 t) + oweAt c 0 t := by
    unfold oweAll; rw [add_comm (oweAt c 0 t) (oweAt c 1 t), add_right_comm (oweAt c 1 t) (oweAt c 0 t), add_right_comm _ (oweAt c 0 t)]
  have e1 : ((oweAt c 1 t + oweAt c 2 t) + oweAt c 3 t) + oweAt c 0 (t + 1) = ((oweAt c 0 (t + 1) + oweAt c 2 t) + oweAt c 3 t) + oweAt c 1 t := by
    rw [add_comm (oweAt c 1 t) (oweAt c 2 t), add_right_comm (oweAt c 2 t) (oweAt c 1 t), add_right_comm _ (oweAt c 1 t), add_comm (oweAt c 0 (t + 1)) (oweAt c 2 t),
      add_right_comm (oweAt c 2 t) (oweAt c 0 (t + 1))]
  have e2 : ((oweAt c 0 (t + 1) + oweAt c 2 t) + oweAt c 3 t) + oweAt c 1 (t + 1) = ((oweAt c 0 (t + 1) + oweAt c 1 (t + 1)) + oweAt c 3 t) + oweAt c 2 t := by
    rw [add_right_comm _ (oweAt c 2 t) (oweAt c 3 t), add_right_comm _ (oweAt c 2 t) (oweAt c 1 (t + 1)), add_right_comm (oweAt c 0 (t + 1)) (oweAt c 3 t)]
  have e3 : ((oweAt c 0 (t + 1) + oweAt c 1 (t + 1)) + oweAt c 3 t) + oweAt c 2 (t + 1) = ((oweAt c 0 (t + 1) + oweAt c 1 (t + 1)) + oweAt c 2 (t + 1)) + oweAt c 3 t :=
    add_right_comm _ _ _
  unfold row lanes
  rw [e0]
  iintro ⟨#Hc, ⟨H0, H1, H2, H3⟩, HO, Hk⟩
  iapply (wp_laneStep m K J c 0 t ht ((oweAt c 1 t + oweAt c 2 t) + oweAt c 3 t)
    (((oweAt_above c 1 t _ (by simp only [Fin.val_zero, Fin.val_one]; omega)).add (oweAt_above c 2 t _ (by show _ < 2 + 3 * (4 * t + 2) + 1; simp only [Fin.val_zero]; omega))).add
      (oweAt_above c 3 t _ (by show _ < 2 + 3 * (4 * t + 3) + 1; simp only [Fin.val_zero]; omega))) (nx 0) (hx 0))
  isplitr; · iexact Hc
  isplitl [H0]; · iexact H0
  isplitl [HO]; · iexact HO
  iintro ⟨H0, HO⟩
  rw [e1]
  iapply (wp_laneStep m K J c 1 t ht ((oweAt c 0 (t + 1) + oweAt c 2 t) + oweAt c 3 t)
    (((oweAt_above c 0 (t + 1) _ (by simp only [Fin.val_zero, Fin.val_one]; omega)).add (oweAt_above c 2 t _ (by show _ < 2 + 3 * (4 * t + 2) + 1; simp only [Fin.val_one]; omega))).add
      (oweAt_above c 3 t _ (by show _ < 2 + 3 * (4 * t + 3) + 1; simp only [Fin.val_one]; omega))) (nx 1) (hx 1))
  isplitr; · iexact Hc
  isplitl [H1]; · iexact H1
  isplitl [HO]; · iexact HO
  iintro ⟨H1, HO⟩
  rw [e2]
  iapply (wp_laneStep m K J c 2 t ht ((oweAt c 0 (t + 1) + oweAt c 1 (t + 1)) + oweAt c 3 t)
    (((oweAt_above c 0 (t + 1) _ (by show 2 + 3 * (4 * t + 2) + 1 < _; simp only [Fin.val_zero]; omega)).add (oweAt_above c 1 (t + 1) _ (by show 2 + 3 * (4 * t + 2) + 1 < _; simp only [Fin.val_one]; omega))).add
      (oweAt_above c 3 t _ (by show 2 + 3 * (4 * t + 2) + 1 < 2 + 3 * (4 * t + 3) + 1; omega))) (nx 2) (hx 2))
  isplitr; · iexact Hc
  isplitl [H2]; · iexact H2
  isplitl [HO]; · iexact HO
  iintro ⟨H2, HO⟩
  rw [e3]
  iapply (wp_laneStep m K J c 3 t ht ((oweAt c 0 (t + 1) + oweAt c 1 (t + 1)) + oweAt c 2 (t + 1))
    (((oweAt_above c 0 (t + 1) _ (by show 2 + 3 * (4 * t + 3) + 1 < _; simp only [Fin.val_zero]; omega)).add (oweAt_above c 1 (t + 1) _ (by show 2 + 3 * (4 * t + 3) + 1 < _; simp only [Fin.val_one]; omega))).add
      (oweAt_above c 2 (t + 1) _ (by show 2 + 3 * (4 * t + 3) + 1 < 2 + 3 * (4 * (t + 1) + 2) + 1; omega))) (nx 3) (hx 3))
  isplitr; · iexact Hc
  isplitl [H3]; · iexact H3
  isplitl [HO]; · iexact HO
  iintro ⟨H3, HO⟩
  iapply Hk
  isplitr [HO]
  · isplitl [H0]; · iexact H0
    isplitl [H1]; · iexact H1
    isplitl [H2]; · iexact H2
    iexact H3
  iexact HO

/-- The last `n` rows. -/
theorem wp_steps (k : BProg F) (Q : PUnit → sProp 𝕄) : ∀ (n : ℕ) (hn : n ≤ 30) (nx : Fin 4 → FVec F S64x2048 .f32)
    (hnx : ∀ h : 30 - n < 15, nx = partV m c ⟨30 - n, h⟩),
    iprop(ctx m K J ∗ lanes m c (30 - n) ∗ bufs m c ∗ owesX c (oweAll c (30 - n)) ∗ ((lanes m c 30 ∗ bufs m c ∗ owesX c (oweAll c 30)) -∗ WP c k Q))
      ⊢ WP c (steps c k n hn nx) Q
  | 0, hn, nx, hnx => by
    rw [Nat.sub_zero]; unfold steps
    iintro ⟨-, H, Hb, HO, Hk⟩
    iapply Hk
    isplitl [H]; · iexact H
    isplitl [Hb]; · iexact Hb
    iexact HO
  | n + 1, hn, nx, hnx => by
    unfold steps
    iintro ⟨#Hc, H, Hb, HO, Hk⟩
    iapply (wp_row m K J c (30 - (n + 1)) _ nx hnx)
    isplitr; · iexact Hc
    isplitl [H]; · iexact H
    isplitl [HO]; · iexact HO
    rw [show 30 - (n + 1) + 1 = 30 - n by omega]
    iintro ⟨H, HO⟩
    split
    · next h' =>
      iapply (wp_products m c ⟨30 - n, h'⟩)
      isplitl [Hb]; · iexact Hb
      iintro Hb
      iapply (wp_steps k Q n _ (partV m c ⟨30 - n, h'⟩) (fun h => rfl))
      isplitr; · iexact Hc
      isplitl [H]; · iexact H
      isplitl [Hb]; · iexact Hb
      isplitl [HO]; · iexact HO
      iexact Hk
    · next h' =>
      iapply (wp_steps k Q n _ nx (fun h => absurd h h'))
      isplitr; · iexact Hc
      isplitl [H]; · iexact H
      isplitl [Hb]; · iexact Hb
      isplitl [HO]; · iexact HO
      iexact Hk

end Cert.RingProof

end
-- ==== Proof.Device.lean ====
/-
What one device does from its start to its last wait.
-/
module

public import proofs.«01_k».proof.Proof.Step

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ) (J : SK → ℕ) (c : Dev nD)

/-! ## The handshake -/

/-- What the handshake needs: the position at the barrier, the wait for it, and the rights to signal both neighbours. -/
def greet : sProp 𝕄 :=
  iprop(atPos ER (barC c) 0 ∅ 0 ∗ cred (tallyAt (barC c) 0 2) ∗ dutyTok ER (barC (lf c)) 0 0 ∗ dutyTok ER (barC (rt c)) 0 1)
/-- Lane `l`'s receive slots. -/
def rbs (l : Fin 4) : sProp 𝕄 := iprop(any (slot rb l 0) c ∗ any (slot rb l 1) c)
/-- Lane `l`'s slots downstream. -/
def dns (l : Fin 4) : sProp 𝕄 := iprop(dnSlot c l 0 ∗ dnSlot c l 1)

/-- A device's own slots for a lane are its upstream neighbour's slots downstream. -/
theorem dns_intro (l : Fin 4) : iprop(ctx m K J ∗ rbs c l) ⊢ dns (F := F) (up c l) l := by
  unfold rbs dns dnSlot
  rw [dn_up]
  iintro ⟨#Hc, H0, H1⟩
  isplitl [H0]
  · isplitl [H0]; · iexact H0
    iapply (ctx_reached m K J c (some (l, .recv 0))); iexact Hc
  · isplitl [H1]; · iexact H1
    iapply (ctx_reached m K J c (some (l, .recv 1))); iexact Hc

theorem barPay_left : iprop(dns (F := F) (lf c) 0 ∗ dns (lf c) 1) ⊢ barPay (lf c) 0 := by
  unfold dns barPay
  iintro ⟨⟨H0, H1⟩, H2, H3⟩
  isplitl [H0]; · iexact H0
  isplitl [H1]; · iexact H1
  isplitl [H2] <;> iassumption
theorem barPay_right : iprop(dns (F := F) (rt c) 2 ∗ dns (rt c) 3) ⊢ barPay (rt c) 1 := by
  unfold dns barPay
  iintro ⟨⟨H0, H1⟩, H2, H3⟩
  isplitl [H0]; · iexact H0
  isplitl [H1]; · iexact H1
  isplitl [H2] <;> iassumption
theorem barPay_elim : iprop(barPay (F := F) c 0 ∗ barPay c 1) ⊢ iprop(dns c 0 ∗ dns c 1 ∗ dns c 2 ∗ dns c 3) := by
  unfold dns barPay
  iintro ⟨⟨H0, H1, H2, H3⟩, H4, H5, H6, H7⟩
  isplitl [H0 H1]; · isplitl [H0] <;> iassumption
  isplitl [H2 H3]; · isplitl [H2] <;> iassumption
  isplitl [H4 H5]; · isplitl [H4] <;> iassumption
  isplitl [H6] <;> iassumption

/-- One signal at a neighbour's barrier. -/
theorem wp_greet (n : Dev nD) (d : ℕ) (hd : d < 2) (O : CellTallies nD τ sig ℕ) (k : BProg F) (Q : PUnit → sProp 𝕄) :
    iprop(ctx m K J ∗ barPay n d ∗ dutyTok ER (barC n) 0 d ∗ owesX c (O + tallyAt (barC n) 0 1) ∗ (owesX c O -∗ WP c k Q))
      ⊢ WP c (.op (.semSignal (n, .tc) bsem (1#32).toInt) fun _ => k) Q := by
  unfold owesX
  iintro ⟨#Hc, Hp, Ht, ⟨%W, HO⟩, Hk⟩
  iapply (Rounds.wp_signal 𝒱₀ ER (Rd m) (c : Thread nD τ) none (dst := (n : Thread nD τ)) (sem := bsem) (κ := K (n, none))
      (r := 0) (d := d)
      (by rw [show (Rd (F := F) m).duties ((n : Thread nD τ), .reg bsem) 0 = _ from duties_at m n none 0]; exact Finset.mem_range.mpr hd)
      ((amount_at m n none 0 d).trans rfl) 0 O rfl (W := W)) $$ [Ht HO Hp]
  · isplitr; · iapply (ctx_inv m K J n none); iexact Hc
    isplitl [HO]; · iexact HO
    isplitl [Ht]; · iexact Ht
    isplitl [Hp]
    · rw [show (Rd (F := F) m).payload ((n : Thread nD τ), .reg bsem) 0 d = barPay n d from payload_at m n none 0 d]
      iexact Hp
    iapply (ctx_reached m K J n none); iexact Hc
  iintro HO
  iapply Hk
  iexists W; iexact HO

theorem wp_handshake (k : BProg F) (Q : PUnit → sProp 𝕄) :
    iprop(ctx m K J ∗ greet c ∗ (rbs c 0 ∗ rbs c 1 ∗ rbs c 2 ∗ rbs c 3) ∗ owesX c (O₀ c)
        ∗ (((dns c 0 ∗ dns c 1 ∗ dns c 2 ∗ dns c 3) ∗ atPos ER (barC c) 1 ∅ 0 ∗ owesX c (O₂ c)) -∗ WP c k Q))
      ⊢ WP c (handshake c k) Q := by
  unfold greet handshake
  iintro ⟨#Hc, ⟨Hat, Hcr, HtL, HtR⟩, ⟨H0, H1, H2, H3⟩, HO, Hk⟩
  ihave D0 := (dns_intro m K J c 0) $$ [H0]
  · isplitr; · iexact Hc
    iexact H0
  ihave D1 := (dns_intro m K J c 1) $$ [H1]
  · isplitr; · iexact Hc
    iexact H1
  ihave D2 := (dns_intro m K J c 2) $$ [H2]
  · isplitr; · iexact Hc
    iexact H2
  ihave D3 := (dns_intro m K J c 3) $$ [H3]
  · isplitr; · iexact Hc
    iexact H3
  iapply (wp_greet m K J c (lf c) 0 (by decide) (O₁ c))
  isplitr; · iexact Hc
  isplitl [D0 D1]
  · iapply (barPay_left c); isplitl [D0]; · iexact D0
    iexact D1
  isplitl [HtL]; · iexact HtL
  isplitl [HO]; · iexact HO
  iintro HO
  iapply (wp_greet m K J c (rt c) 1 (by decide) (O₂ c))
  isplitr; · iexact Hc
  isplitl [D2 D3]
  · iapply (barPay_right c); isplitl [D2]; · iexact D2
    iexact D3
  isplitl [HtR]; · iexact HtR
  isplitl [HO]; · iexact HO
  unfold owesX
  iintro ⟨%W, HO⟩
  iapply (Rounds.wp_wait_rest_token 𝒱₀ ER (Rd m) (c : Thread nD τ) none (κ := K (c, none))
      (wpE_semWait_eq 𝒱₀ (c : Thread nD τ) none Set.univ) (Set.mem_univ _) 0 (O := O₂ c) (W := W) (R := 0) (m := 0) (T := ∅)
      (by rw [expect_bar]; decide)) $$ [Hcr HO Hat]
  · isplitr; · iapply (ctx_inv m K J c none); iexact Hc
    isplitl [Hcr]; · iexact Hcr
    isplitl [HO]; · iexact HO
    isplitr; · iapply (ctx_wait m K J c none 0 (by decide) (O₂ c) (O₂_above c)); iexact Hc
    iexact Hat
  iintro ⟨HO, Hat, -, Hp⟩
  ihave Hp := (Entails.of_eq (rest_bar m c)) $$ Hp
  ihave Hp := (barPay_elim (F := F) c) $$ Hp
  iapply Hk
  isplitl [Hp]; · iexact Hp
  isplitl [Hat]; · iexact Hat
  iexists _; iexact HO

/-! ## The copies of the arguments -/

theorem zero_off : (![0, 0] : Fin 2 → Nat) = fun _ => 0 := funext fun a => by fin_cases a <;> rfl

/-- The arguments' blocks as the body receives them. -/
def stgs : sProp 𝕄 := iprop(((c : Thread nD τ).loc cc0_stg0_0 ↦{fullShare} xstg m c) ∗ ((c : Thread nD τ).loc cc0_stg1_0 ↦{fullShare} wstg m c))

theorem wp_stash (fx : Buf (Elt F) ((c : Thread nD τ).loc cc0_scratch0)) (fw : Buf (Elt F) ((c : Thread nD τ).loc cc0_scratch1)) (k : BProg F) (Q : PUnit → sProp 𝕄) :
    iprop(stgs m c ∗ ((c : Thread nD τ).loc cc0_scratch0 ↦{fullShare} fx) ∗ ((c : Thread nD τ).loc cc0_scratch1 ↦{fullShare} fw)
        ∗ ((stgs m c ∗ bufs m c) -∗ WP c k Q))
      ⊢ WP c (stash k) Q := by
  unfold stgs bufs stash
  iintro ⟨⟨Hx, Hw⟩, Hxb, Hwb, Hk⟩
  iapply (wp_load 𝒱₀ (c : Thread nD τ) none Set.univ (m := xm) (Finset.subset_univ _)) $$ Hx; iintro Hx
  iapply (wp_load 𝒱₀ (c : Thread nD τ) none Set.univ (m := xb) (Finset.subset_univ _)) $$ Hxb; iintro Hxb
  iapply (wp_store 𝒱₀ (c : Thread nD τ) none Set.univ (m := xb) (r := Rect.unit (s := S4096x256) ![0, 0] S4096x256.size inb_S4096x256_S4096x256_0_0) (Mk := Finset.univ) (Finset.subset_univ _)) $$ Hxb; iintro Hxb
  iapply (wp_load 𝒱₀ (c : Thread nD τ) none Set.univ (m := wm) (Finset.subset_univ _)) $$ Hw; iintro Hw
  iapply (wp_load 𝒱₀ (c : Thread nD τ) none Set.univ (m := wb) (Finset.subset_univ _)) $$ Hwb; iintro Hwb
  iapply (wp_store 𝒱₀ (c : Thread nD τ) none Set.univ (m := wb) (r := Rect.unit (s := S256x2048) ![0, 0] S256x2048.size inb_S256x2048_S256x2048_0_0) (Mk := Finset.univ) (Finset.subset_univ _)) $$ Hwb; iintro Hwb
  rw [show (xm : Memref sig .tc .vmem S4096x256 .bf16).view.readAt (Elt F) (Rect.unit (s := S4096x256) ![0, 0] S4096x256.size inb_S4096x256_S4096x256_0_0).toLoadRect (xstg m c) = xstg m c from
      Memref.readAt_unit_zero (Elt F) cc0_stg0_0 zero_off _ _,
    show (wm : Memref sig .tc .vmem S256x2048 .bf16).view.readAt (Elt F) (Rect.unit (s := S256x2048) ![0, 0] S256x2048.size inb_S256x2048_S256x2048_0_0).toLoadRect (wstg m c) = wstg m c from
      Memref.readAt_unit_zero (Elt F) cc0_stg1_0 zero_off _ _,
    show ((xb : Memref sig .tc .vmem S4096x256 .bf16).access (Rect.unit (s := S4096x256) ![0, 0] S4096x256.size inb_S4096x256_S4096x256_0_0) : View sig .tc _ _ _).write (Elt F) fx (k0_pay1 (xstg m c)) Finset.univ = xbuf m c from
      Memref.write_access_unit_zero_univ (Elt F) cc0_scratch0 zero_off _ _ _,
    show ((wb : Memref sig .tc .vmem S256x2048 .bf16).access (Rect.unit (s := S256x2048) ![0, 0] S256x2048.size inb_S256x2048_S256x2048_0_0) : View sig .tc _ _ _).write (Elt F) fw (k0_pay2 (wstg m c)) Finset.univ = wbuf m c from
      Memref.write_access_unit_zero_univ (Elt F) cc0_scratch1 zero_off _ _ _]
  iapply Hk
  isplitl [Hx Hw]; · isplitl [Hx] <;> iassumption
  isplitl [Hxb] <;> iassumption

/-! ## The first transfers -/

/-- What lane `l` holds at the start, apart from its slots downstream. -/
def seat (l : Fin 4) : sProp 𝕄 :=
  iprop(rest c l 0 ∗ (posC c l 0 ∗ bigSep (Finset.Ico 0 28) (fun n => iprop(crC c l n ∗ tokW c l n)) ∗ bigSep (Finset.Ico 0 30) (fun u => iprop(tokS c l u ∗ tokR c l u)))
    ∗ giver c l 0 ∗ outs m c l 0 0 ∗ any (slot sb l 0) c ∗ any (slot sb l 1) c)
/-- The same with its slots downstream, and its own product in the send buffer. -/
def armed (l : Fin 4) : sProp 𝕄 :=
  iprop(rest c l 0 ∗ pool c l 0 ∗ giver c l 0 ∗ outs m c l 0 0 ∗ any (slot sb l 1) c ∗ has (slot sb l 0) c (sentV m 0 c l))

theorem wp_seed (l : Fin 4) (k : BProg F) (Q : PUnit → sProp 𝕄) :
    iprop(bufs m c ∗ seat m c l ∗ dns c l ∗ ((bufs m c ∗ armed m c l) -∗ WP c k Q)) ⊢ WP c (seed c l k) Q := by
  unfold seat armed seed pool dns
  iintro ⟨Hb, ⟨Hr, ⟨Hp, Hcr, Ht⟩, Hg, Ho, Hs0, Hs1⟩, ⟨D0, D1⟩, Hk⟩
  iapply (wp_product m c)
  isplitl [Hb]; · iexact Hb
  iintro Hb
  iapply (wp_storeSb c l 0)
  isplitl [Hs0]; · iexact Hs0
  iintro Hs0
  iapply Hk
  isplitl [Hb]; · iexact Hb
  isplitl [Hr]; · iexact Hr
  isplitl [Hp Hcr Ht D0 D1]
  · isplitl [D0 D1]
    · iapply (Entails.of_eq (show iprop(dnSlot c l 0 ∗ dnSlot c l 1) = bigSep (Finset.Ico 0 2) (dnSlot (F := F) c l) from by
        rw [bigSep_eq_bigSepL_of_eq [0, 1] (by decide) (by decide), bigSepL_cons_cons, bigSepL_singleton]; rfl))
      isplitl [D0] <;> iassumption
    isplitl [Hp]; · iexact Hp
    isplitl [Hcr]; · iexact Hcr
    iexact Ht
  isplitl [Hg]; · iexact Hg
  isplitl [Ho]; · iexact Ho
  isplitl [Hs1]; · iexact Hs1
  iapply (Entails.of_eq (show has (slot sb l 0) c (narrow (ownV m c l)) = has (slot sb l 0) c (sentV m 0 c l) by rw [sentV]))
  iexact Hs0

theorem wp_first (l : Fin 4) (R : CellTallies nD τ sig ℕ) (k : BProg F) (Q : PUnit → sProp 𝕄) :
    iprop(ctx m K J ∗ armed m c l ∗ owesX c (R + oweL c l 0 0) ∗ ((laneAt m c l 0 ∗ owesX c (R + oweAt c l 0)) -∗ WP c k Q)) ⊢ WP c (launch c 0 l k) Q := by
  rw [laneAt_lt m c l (show 0 < 30 by omega), oweAt_lt c l (show 0 < 29 by omega)]
  unfold armed lane
  rw [spare_low c l (show 0 ≤ 15 by omega)]
  iintro ⟨#Hc, ⟨Hr, Hp, Hg, Ho, Hs1, Hs0⟩, HO, Hk⟩
  iapply (wp_launch m K J c l 0 0 (by decide) R (fun h => absurd h (by decide)))
  isplitr; · iexact Hc
  isplitl [Hp]; · iexact Hp
  isplitl [Hs0]; · iexact Hs0
  isplitr; · iapply (ctx_rchS m K J c l 0 (by decide)); iexact Hc
  isplitl [HO]; · iexact HO
  iintro ⟨Hp, Hcr, HO⟩
  iapply Hk
  isplitr [HO]
  · isplitl [Hr Hcr]
    · iapply (flow_intro c l 0)
      isplitl [Hr]; · iexact Hr
      isplitr; · iapply (ctx_rchS m K J c l 1 (by decide)); iexact Hc
      isplitr; · iapply (ctx_rchR m K J c l 1 (by decide)); iexact Hc
      iexact Hcr
    isplitl [Hp]; · iexact Hp
    isplitl [Hg]; · iexact Hg
    isplitl [Ho]; · iexact Ho
    iexact Hs1
  iexact HO

/-- Sums of four, with one summand last. -/
theorem four₀ {M : Type} [AddCommMonoid M] (a b d e : M) : ((a + b) + d) + e = ((b + d) + e) + a := by
  rw [add_comm a b, add_right_comm b a, add_right_comm _ a]
theorem four₁ {M : Type} [AddCommMonoid M] (a b d e : M) : ((b + d) + e) + a = ((a + d) + e) + b := by
  rw [add_comm b d, add_right_comm d b, add_right_comm _ b, add_comm a d, add_right_comm d a]
theorem four₂ {M : Type} [AddCommMonoid M] (a b d e : M) : ((a + d) + e) + b = ((a + b) + e) + d := by
  rw [add_right_comm _ d e, add_right_comm _ d b, add_right_comm a e]

theorem wp_firsts (k : BProg F) (Q : PUnit → sProp 𝕄) :
    iprop(ctx m K J ∗ (armed m c 0 ∗ armed m c 1 ∗ armed m c 2 ∗ armed m c 3) ∗ owesX c (O₂ c) ∗ ((lanes m c 0 ∗ owesX c (oweAll c 0)) -∗ WP c k Q))
      ⊢ WP c (launch c 0 0 <| launch c 0 1 <| launch c 0 2 <| launch c 0 3 k) Q := by
  unfold lanes O₂ oweAll
  rw [four₀ (oweL c 0 0 0) (oweL c 1 0 0)]
  iintro ⟨#Hc, ⟨H0, H1, H2, H3⟩, HO, Hk⟩
  iapply (wp_first m K J c 0 ((oweL c 1 0 0 + oweL c 2 0 0) + oweL c 3 0 0))
  isplitr; · iexact Hc
  isplitl [H0]; · iexact H0
  isplitl [HO]; · iexact HO
  iintro ⟨H0, HO⟩
  rw [four₁ (oweAt c 0 0) (oweL c 1 0 0)]
  iapply (wp_first m K J c 1 ((oweAt c 0 0 + oweL c 2 0 0) + oweL c 3 0 0))
  isplitr; · iexact Hc
  isplitl [H1]; · iexact H1
  isplitl [HO]; · iexact HO
  iintro ⟨H1, HO⟩
  rw [four₂ (oweAt c 0 0) (oweAt c 1 0) (oweL c 2 0 0)]
  iapply (wp_first m K J c 2 ((oweAt c 0 0 + oweAt c 1 0) + oweL c 3 0 0))
  isplitr; · iexact Hc
  isplitl [H2]; · iexact H2
  isplitl [HO]; · iexact HO
  iintro ⟨H2, HO⟩
  rw [add_right_comm (oweAt c 0 0 + oweAt c 1 0) (oweL c 3 0 0)]
  iapply (wp_first m K J c 3 ((oweAt c 0 0 + oweAt c 1 0) + oweAt c 2 0))
  isplitr; · iexact Hc
  isplitl [H3]; · iexact H3
  isplitl [HO]; · iexact HO
  iintro ⟨H3, HO⟩
  iapply Hk
  isplitr [HO]
  · isplitl [H0]; · iexact H0
    isplitl [H1]; · iexact H1
    isplitl [H2]; · iexact H2
    iexact H3
  iexact HO

/-! ## The last copies -/

/-- The four lanes' copies to the result, `a` of each waited for. -/
def outs4 (a : ℕ) : sProp 𝕄 := iprop(outs m c 0 a 16 ∗ outs m c 1 a 16 ∗ outs m c 2 a 16 ∗ outs m c 3 a 16)

theorem wp_drain (a : ℕ) (h14 : 14 ≤ a) (ha : a < 16) (O : CellTallies nD τ sig ℕ) (hO : Above 0 O) (k : BProg F) (Q : PUnit → sProp 𝕄) :
    iprop(ctx m K J ∗ outs4 m c a ∗ owesX c O ∗ ((outs4 m c (a + 1) ∗ owesX c O) -∗ WP c k Q)) ⊢ WP c (drain c ⟨a, ha⟩ k) Q := by
  unfold outs4 drain
  iintro ⟨#Hc, ⟨H0, H1, H2, H3⟩, HO, Hk⟩
  iapply (wp_collect m K J c 0 a 16 ha (by omega) le_rfl ha O hO)
  isplitr; · iexact Hc
  isplitl [H0]; · iexact H0
  isplitl [HO]; · iexact HO
  iintro ⟨H0, HO⟩
  iapply (wp_collect m K J c 1 a 16 ha (by omega) le_rfl ha O hO)
  isplitr; · iexact Hc
  isplitl [H1]; · iexact H1
  isplitl [HO]; · iexact HO
  iintro ⟨H1, HO⟩
  iapply (wp_collect m K J c 2 a 16 ha (by omega) le_rfl ha O hO)
  isplitr; · iexact Hc
  isplitl [H2]; · iexact H2
  isplitl [HO]; · iexact HO
  iintro ⟨H2, HO⟩
  iapply (wp_collect m K J c 3 a 16 ha (by omega) le_rfl ha O hO)
  isplitr; · iexact Hc
  isplitl [H3]; · iexact H3
  isplitl [HO]; · iexact HO
  iintro ⟨H3, HO⟩
  iapply Hk
  isplitr [HO]
  · isplitl [H0]; · iexact H0
    isplitl [H1]; · iexact H1
    isplitl [H2]; · iexact H2
    iexact H3
  iexact HO

/-! ## All of it -/

/-- What lane `l` holds at the end. -/
def done (l : Fin 4) : sProp 𝕄 :=
  iprop(rest c l 30 ∗ posC c l 28 ∗ outs m c l 16 16 ∗ (any (slot sb l 0) c ∗ any (slot sb l 1) c) ∗ rbs c l)

theorem done_intro (l : Fin 4) : iprop(laneEnd m c l) ⊢ iprop(outs m c l 14 16 ∗ (outs m c l 16 16 -∗ done m c l)) := by
  unfold laneEnd pool done rbs
  iintro ⟨Hr, ⟨-, Hp, -, -⟩, -, Ho, Hs, Hb⟩
  isplitl [Ho]; · iexact Ho
  iintro Ho
  isplitl [Hr]; · iexact Hr
  isplitl [Hp]; · iexact Hp
  isplitl [Ho]; · iexact Ho
  isplitl [Hs]; · iexact Hs
  iexact Hb

theorem oweAll_end : oweAll c 30 = 0 := by
  have h (l : Fin 4) : oweAt c l 30 = 0 := by
    rw [oweAt_ge c l (by omega)]; unfold oweL
    rw [Finset.Ico_eq_empty (by omega), Finset.Ico_eq_empty (by omega), Finset.sum_empty, Finset.sum_empty, add_zero]
  unfold oweAll; rw [h, h, h, h, add_zero, add_zero, add_zero]

/-- The device's whole run, from its arguments, its slots and its place in the protocol, to all its lanes done. -/
theorem wp_device (fx : Buf (Elt F) ((c : Thread nD τ).loc cc0_scratch0)) (fw : Buf (Elt F) ((c : Thread nD τ).loc cc0_scratch1)) (Q : PUnit → sProp 𝕄) :
    iprop(ctx m K J ∗ greet c ∗ (rbs c 0 ∗ rbs c 1 ∗ rbs c 2 ∗ rbs c 3) ∗ (seat m c 0 ∗ seat m c 1 ∗ seat m c 2 ∗ seat m c 3)
        ∗ stgs m c ∗ ((c : Thread nD τ).loc cc0_scratch0 ↦{fullShare} fx) ∗ ((c : Thread nD τ).loc cc0_scratch1 ↦{fullShare} fw) ∗ owesX c (O₀ c)
        ∗ ((stgs m c ∗ bufs m c ∗ atPos ER (barC c) 1 ∅ 0 ∗ (done m c 0 ∗ done m c 1 ∗ done m c 2 ∗ done m c 3) ∗ owesX c 0) -∗ WP c (Prog.ret ⟨⟩) Q))
      ⊢ WP c (laneProg c) Q := by
  unfold laneProg
  iintro ⟨#Hc, Hgr, Hrb, ⟨S0, S1, S2, S3⟩, Hst, Hxb, Hwb, HO, Hk⟩
  iapply (wp_handshake m K J c)
  isplitr; · iexact Hc
  isplitl [Hgr]; · iexact Hgr
  isplitl [Hrb]; · iexact Hrb
  isplitl [HO]; · iexact HO
  iintro ⟨⟨D0, D1, D2, D3⟩, Hat, HO⟩
  iapply (wp_stash m c fx fw)
  isplitl [Hst]; · iexact Hst
  isplitl [Hxb]; · iexact Hxb
  isplitl [Hwb]; · iexact Hwb
  iintro ⟨Hst, Hb⟩
  iapply (wp_seed m c 0)
  isplitl [Hb]; · iexact Hb
  isplitl [S0]; · iexact S0
  isplitl [D0]; · iexact D0
  iintro ⟨Hb, A0⟩
  iapply (wp_seed m c 1)
  isplitl [Hb]; · iexact Hb
  isplitl [S1]; · iexact S1
  isplitl [D1]; · iexact D1
  iintro ⟨Hb, A1⟩
  iapply (wp_seed m c 2)
  isplitl [Hb]; · iexact Hb
  isplitl [S2]; · iexact S2
  isplitl [D2]; · iexact D2
  iintro ⟨Hb, A2⟩
  iapply (wp_seed m c 3)
  isplitl [Hb]; · iexact Hb
  isplitl [S3]; · iexact S3
  isplitl [D3]; · iexact D3
  iintro ⟨Hb, A3⟩
  iapply (wp_firsts m K J c)
  isplitr; · iexact Hc
  isplitl [A0 A1 A2 A3]
  · isplitl [A0]; · iexact A0
    isplitl [A1]; · iexact A1
    isplitl [A2] <;> iassumption
  isplitl [HO]; · iexact HO
  iintro ⟨HL, HO⟩
  iapply (wp_products m c 0)
  isplitl [Hb]; · iexact Hb
  iintro Hb
  iapply (wp_steps m K J c (drain c 14 <| drain c 15 <| Prog.ret ⟨⟩) Q 30 le_rfl (partV m c 0) (fun h => rfl))
  isplitr; · iexact Hc
  isplitl [HL]; · iexact HL
  isplitl [Hb]; · iexact Hb
  isplitl [HO]; · iexact HO
  rw [oweAll_end]
  unfold lanes
  rw [laneAt_end, laneAt_end, laneAt_end, laneAt_end]
  iintro ⟨⟨L0, L1, L2, L3⟩, Hb, HO⟩
  ihave L0 := (done_intro m c 0) $$ L0
  ihave L1 := (done_intro m c 1) $$ L1
  ihave L2 := (done_intro m c 2) $$ L2
  ihave L3 := (done_intro m c 3) $$ L3
  icases L0 with ⟨O0, W0⟩
  icases L1 with ⟨O1, W1⟩
  icases L2 with ⟨O2, W2⟩
  icases L3 with ⟨O3, W3⟩
  iapply (wp_drain m K J c 14 le_rfl (by decide) 0 (Above.zero 0))
  isplitr; · iexact Hc
  isplitl [O0 O1 O2 O3]
  · unfold outs4
    isplitl [O0]; · iexact O0
    isplitl [O1]; · iexact O1
    isplitl [O2] <;> iassumption
  isplitl [HO]; · iexact HO
  iintro ⟨Ho, HO⟩
  iapply (wp_drain m K J c 15 (by decide) (by decide) 0 (Above.zero 0))
  isplitr; · iexact Hc
  isplitl [Ho]; · iexact Ho
  isplitl [HO]; · iexact HO
  unfold outs4
  iintro ⟨⟨O0, O1, O2, O3⟩, HO⟩
  iapply Hk
  isplitl [Hst]; · iexact Hst
  isplitl [Hb]; · iexact Hb
  isplitl [Hat]; · iexact Hat
  isplitr [HO]
  · isplitl [O0 W0]; · iapply W0; iexact O0
    isplitl [O1 W1]; · iapply W1; iexact O1
    isplitl [O2 W2]; · iapply W2; iexact O2
    iapply W3; iexact O3
  iexact HO

end Cert.RingProof

end
-- ==== Proof.Blocks.lean ====
/-
Buffers held whole, slot by slot and row by row: the four-by-two buffers as their eight slots, the result as the
sixty-four groups of rows that the lanes write.
-/
module

public import proofs.«01_k».proof.Proof.Device
public import Idealize.ShloMosaic.Lib.Ring

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig ℕ (Elt F) ℕ UU ℕ

/-! ## Families -/

theorem bigSep_lanes (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_slots (Φ : Fin 2 → sProp 𝕄) : bigSep Finset.univ Φ = iprop(Φ 0 ∗ Φ 1) :=
  bigSep_univ_eq_bigSepL [0, 1] (by decide) (by decide) Φ

theorem bigSep_each {I : Type} [DecidableEq I] {s : Finset I} {Φ Ψ : I → sProp 𝕄} (h : ∀ i ∈ s, Φ i ⊢ Ψ i) : bigSep s Φ ⊢ bigSep s Ψ := bigSep_mono h

/-- Facts held with the members of a family are facts of all of it. -/
theorem bigSep_facts {I : Type} [DecidableEq I] (S : Finset I) (p : I → Prop) (Φ : I → sProp 𝕄) :
    bigSep S (fun i => iprop(⌜p i⌝ ∗ Φ i)) ⊢ iprop(⌜∀ i ∈ S, p i⌝ ∗ bigSep S Φ) := by
  induction S using Finset.induction_on with
  | empty =>
    rw [bigSep_empty, bigSep_empty]
    iintro H
    isplitr
    · ipureintro; intro i hi; exact absurd hi (Finset.notMem_empty _)
    · iexact H
  | insert i S hi ih =>
    rw [bigSep_insert hi, bigSep_insert hi]
    refine (show iprop((⌜p i⌝ ∗ Φ i) ∗ bigSep S (fun i => iprop(⌜p i⌝ ∗ Φ i))) ⊢ iprop(⌜∀ j ∈ insert i S, p j⌝ ∗ (Φ i ∗ bigSep S Φ)) from ?_)
    iintro ⟨⟨%h, H⟩, Hs⟩
    ihave Hs := ih $$ Hs
    icases Hs with ⟨%hs, Hs⟩
    isplitr
    · ipureintro
      intro j hj
      rcases Finset.mem_insert.mp hj with rfl | hj
      · exact h
      · exact hs j hj
    · isplitl [H] <;> iassumption

theorem any_of {sp : Space} {s : Shape} {e : EltTy} (M : Memref sig .tc sp s e) (c : Dev nD) (f : Buf (Elt F) (M.view.loc (c : Thread nD τ))) :
    (M.view.loc (c : Thread nD τ) ↦[M.view.set]{fullShare} f : sProp 𝕄) ⊢ any M c := by
  unfold any
  iintro H; iexists f; iexact H

/-! ## Slots -/

section Slots
variable {e : EltTy} (b : Memref sig .tc .vmem S4x2x64x2048 e)

/-- The elements of a slot. -/
def slotSet (y : Fin 4 × Fin 2) : Finset b.view.ty.Idx := (slot b y.1 y.2).view.set

theorem slotSet_eq (y : Fin 4 × Fin 2) : slotSet b y = (b.view.slice (slotR y.1 y.2)).set := slot_set b y.1 y.2

theorem slots_disjoint (y z : Fin 4 × Fin 2) (h : y ≠ z) : Disjoint (slotSet b y) (slotSet b z) := by
  rw [slotSet_eq, slotSet_eq]
  refine View.disjoint_slice ?_
  by_cases h1 : y.1 = z.1
  · have h2 : y.2 ≠ z.2 := fun h2 => h (Prod.ext h1 h2)
    have h3 : y.2.val ≠ z.2.val := fun h3 => h2 (Fin.ext h3)
    refine Rect.unit_disjoint 1 ?_
    show y.2.val + 1 ≤ z.2.val ∨ z.2.val + 1 ≤ y.2.val
    omega
  · have h3 : y.1.val ≠ z.1.val := fun h3 => h1 (Fin.ext h3)
    refine Rect.unit_disjoint 0 ?_
    show y.1.val + 1 ≤ z.1.val ∨ z.1.val + 1 ≤ y.1.val
    omega

theorem slots_cover (hb : b.view.set = Finset.univ) :
    Finset.univ.biUnion (slotSet b) = Finset.univ := by
  ext i
  refine ⟨fun _ => Finset.mem_univ _, fun _ => ?_⟩
  have hi : i ∈ b.view.set := by rw [hb]; exact Finset.mem_univ _
  obtain ⟨x, -, rfl⟩ := Finset.mem_map.mp hi
  refine Finset.mem_biUnion.mpr ⟨(x 0, x 1), Finset.mem_univ _, ?_⟩
  rw [slotSet_eq, View.set_slice]
  refine Finset.mem_map.mpr ⟨x, ?_, rfl⟩
  rw [Rect.mem_set_unit]
  intro a
  have h2 : (x 2).val < 64 := (x 2).isLt
  have h3 : (x 3).val < 2048 := (x 3).isLt
  fin_cases a
  · exact ⟨le_refl _, Nat.lt_succ_self _⟩
  · exact ⟨le_refl _, Nat.lt_succ_self _⟩
  · exact ⟨Nat.zero_le _, by show (x 2).val < 0 + 64; omega⟩
  · exact ⟨Nat.zero_le _, by show (x 3).val < 0 + 2048; omega⟩

/-- Lane `l`'s two slots. -/
def pair (c : Dev nD) (l : Fin 4) : sProp 𝕄 := iprop(any (slot b l 0) c ∗ any (slot b l 1) c)

theorem any_slot (c : Dev nD) (y : Fin 4 × Fin 2) :
    (any (F := F) (slot b y.1 y.2) c : sProp 𝕄)
      = iprop(∃ f : Buf (Elt F) (b.view.loc (c : Thread nD τ)), b.view.loc (c : Thread nD τ) ↦[slotSet b y]{fullShare} f) := rfl

theorem pairs_eq (c : Dev nD) :
    bigSep Finset.univ (fun y : Fin 4 × Fin 2 => any (F := F) (slot b y.1 y.2) c) = iprop(pair b c 0 ∗ pair b c 1 ∗ pair b c 2 ∗ pair b c 3) := by
  rw [bigSep_univ_prod, bigSep_lanes]
  simp only [bigSep_slots]
  rfl

/-- A four-by-two buffer held whole is its slots; -/
theorem slots_split (hb : b.view.set = Finset.univ) (c : Dev nD) :
    iprop(∃ f : Buf (Elt F) (b.view.loc (c : Thread nD τ)), b.view.loc (c : Thread nD τ) ↦{fullShare} f)
      ⊢ iprop(pair (F := F) b c 0 ∗ pair b c 1 ∗ pair b c 2 ∗ pair b c 3) := by
  rw [← pairs_eq]
  iintro ⟨%f, H⟩
  ihave H := (Entails.of_eq (pointsTo_blocks (Ix := ℕ) (Name := ℕ) (U := UU) (Lvl := ℕ) (q := fullShare)
    (slotSet b) (slots_disjoint b) (slots_cover b hb) f)) $$ H
  iapply (bigSep_each (s := Finset.univ) (Φ := fun y => (b.view.loc (c : Thread nD τ) ↦[slotSet b y]{fullShare} f : sProp 𝕄))
    (Ψ := fun y : Fin 4 × Fin 2 => any (F := F) (slot b y.1 y.2) c) fun y _ => any_of (slot b y.1 y.2) c f)
  iexact H

/-- and its slots make it whole. -/
theorem slots_join (hb : b.view.set = Finset.univ) (f₀ : (c : Dev nD) → Buf (Elt F) (b.view.loc (c : Thread nD τ))) (c : Dev nD) :
    iprop(pair (F := F) b c 0 ∗ pair b c 1 ∗ pair b c 2 ∗ pair b c 3)
      ⊢ iprop(∃ f : Buf (Elt F) (b.view.loc (c : Thread nD τ)), b.view.loc (c : Thread nD τ) ↦{fullShare} f) := by
  rw [← pairs_eq, bigSep_congr fun y _ => any_slot b c y]
  exact pointsTo_blocks_join_exists (ℓ := b.view.loc (c : Thread nD τ)) (Ix := ℕ) (Name := ℕ) (U := UU) (Lvl := ℕ) (q := fullShare) (slotSet b) (slots_disjoint b) (slots_cover b hb) (f₀ c)
end Slots

/-! ## Rows of the result -/

/-- The chunk of rows that lane `l` writes at step `14 + j`. -/
def ochunk (c : Dev nD) (j : Fin 16) (l : Fin 4) : ℕ := if l.val < 2 then (c.val + 49 - j.val) % 16 else (c.val + j.val + 15) % 16

theorem ooff_eq (c : Dev nD) (j : Fin 16) (l : Fin 4) : ooff c j l = ![256 * ochunk c j l + 64 * l.val, 0] := by
  match l with
  | 0 => exact k0_off4_eq c j 0
  | 1 => exact k0_off4_eq c j 1
  | 2 => exact (k0_off5_eq c j 0).trans (by unfold ochunk; rfl)
  | 3 => exact (k0_off5_eq c j 1).trans (by
      unfold ochunk
      show ![256 * ((c.val + j.val + 15) % 16) + 64 * 1 + 128, 0] = ![256 * ((c.val + j.val + 15) % 16) + 64 * 3, 0]
      rw [Nat.add_assoc])

theorem ochunk_inj (c : Dev nD) (l : Fin 4) (i j : Fin 16) (h : ochunk c i l = ochunk c j l) : i = j := by
  have hc : c.val < 16 := c.isLt
  have hi : i.val < 16 := i.isLt
  have hj : j.val < 16 := j.isLt
  apply Fin.ext
  unfold ochunk at h
  split at h <;> omega

theorem ochunk_surj (c : Dev nD) (l : Fin 4) (k : ℕ) (hk : k < 16) : ∃ j : Fin 16, ochunk c j l = k := by
  have hc : c.val < 16 := c.isLt
  unfold ochunk
  by_cases hl : l.val < 2
  · refine ⟨⟨(c.val + 49 - k) % 16, Nat.mod_lt _ (by decide)⟩, ?_⟩
    rw [if_pos hl]; dsimp only; omega
  · refine ⟨⟨(k + 17 - c.val) % 16, Nat.mod_lt _ (by decide)⟩, ?_⟩
    rw [if_neg hl]; dsimp only; omega

/-- The elements of lane `y.1`'s rows at step `14 + y.2`. -/
def rowSet (c : Dev nD) (y : Fin 4 × Fin 16) : Finset S4096x2048.Idx := (orow c y.2 y.1).view.set

theorem any_row (c : Dev nD) (y : Fin 4 × Fin 16) :
    (any (F := F) (orow c y.2 y.1) c : sProp 𝕄)
      = iprop(∃ f : Buf (Elt F) ((c : Thread nD τ).loc main_v1), (c : Thread nD τ).loc main_v1 ↦[rowSet c y]{fullShare} f) := rfl
theorem has_row (c : Dev nD) (y : Fin 4 × Fin 16) (v : FVec F S64x2048 .f32) :
    (has (orow c y.2 y.1) c v : sProp 𝕄)
      = iprop(∃ f : Buf (Elt F) ((c : Thread nD τ).loc main_v1), ⌜(orow c y.2 y.1).view.read (Elt F) f = v⌝
          ∗ (c : Thread nD τ).loc main_v1 ↦[rowSet c y]{fullShare} f) := rfl

theorem rowSet_eq (c : Dev nD) (j : Fin 16) (l : Fin 4) :
    rowSet c (l, j) = (Rect.unit (s := S4096x2048) (ooff c j l) S64x2048.size (ooff_inb c j l)).set :=
  View.set_slice_whole main_v1 _

theorem rows_disjoint (c : Dev nD) (y z : Fin 4 × Fin 16) (h : y ≠ z) : Disjoint (rowSet c y) (rowSet c z) := by
  rw [rowSet_eq, rowSet_eq]
  refine Rect.unit_disjoint 0 ?_
  rw [ooff_eq, ooff_eq]
  show 256 * ochunk c y.2 y.1 + 64 * y.1.val + 64 ≤ 256 * ochunk c z.2 z.1 + 64 * z.1.val
    ∨ 256 * ochunk c z.2 z.1 + 64 * z.1.val + 64 ≤ 256 * ochunk c y.2 y.1 + 64 * y.1.val
  have hy : y.1.val < 4 := y.1.isLt
  have hz : z.1.val < 4 := z.1.isLt
  by_cases h1 : y.1 = z.1
  · have h3 : ochunk c y.2 y.1 ≠ ochunk c z.2 z.1 := fun e => h (Prod.ext h1 (ochunk_inj c z.1 _ _ (h1 ▸ e)))
    rw [h1] at h3 ⊢
    omega
  · have h3 : y.1.val ≠ z.1.val := fun e => h1 (Fin.ext e)
    omega

/-- The row `i` of the result is one that some lane writes at some step. -/
theorem row_mem (c : Dev nD) (i : S4096x2048.Idx) : ∃ y : Fin 4 × Fin 16, i ∈ rowSet c y
    ∧ 256 * ochunk c y.2 y.1 + 64 * y.1.val ≤ (i 0).val ∧ (i 0).val < 256 * ochunk c y.2 y.1 + 64 * y.1.val + 64 := by
  have h0 : (i 0).val < 4096 := (i 0).isLt
  have h1 : (i 1).val < 2048 := (i 1).isLt
  obtain ⟨j, hj⟩ := ochunk_surj c ⟨(i 0).val % 256 / 64, by omega⟩ ((i 0).val / 256) (by omega)
  refine ⟨(⟨(i 0).val % 256 / 64, by omega⟩, j), ?_, ?_, ?_⟩
  · rw [rowSet_eq, Rect.mem_set_unit]
    intro a
    rw [ooff_eq]
    dsimp only
    rw [hj]
    fin_cases a
    · show 256 * ((i 0).val / 256) + 64 * ((i 0).val % 256 / 64) ≤ (i 0).val
        ∧ (i 0).val < 256 * ((i 0).val / 256) + 64 * ((i 0).val % 256 / 64) + 64
      omega
    · show 0 ≤ (i 1).val ∧ (i 1).val < 0 + 2048
      omega
  · dsimp only; rw [hj]; omega
  · dsimp only; rw [hj]; omega

theorem rows_cover (c : Dev nD) : Finset.univ.biUnion (rowSet c) = Finset.univ := by
  ext i
  refine ⟨fun _ => Finset.mem_univ _, fun _ => ?_⟩
  obtain ⟨y, hy, -⟩ := row_mem c i
  exact Finset.mem_biUnion.mpr ⟨y, Finset.mem_univ _, hy⟩

theorem jf_val (j : Fin 16) : jf j.val = j := Fin.ext (Nat.mod_eq_of_lt j.isLt)

/-- A family over the sixteen steps is one over their numbers. -/
theorem bigSep_sixteen (Φ : Fin 16 → sProp 𝕄) : bigSep Finset.univ Φ = bigSep (Finset.range 16) (fun j => Φ (jf j)) :=
  bigSep_fin_eq_range 16 Φ _ fun t h => by rw [jf_of_lt t h]

/-- The result held whole is the rows each lane writes; -/
theorem rows_split (c : Dev nD) (f : Buf (Elt F) ((c : Thread nD τ).loc main_v1)) :
    ((c : Thread nD τ).loc main_v1 ↦{fullShare} f : sProp 𝕄)
      ⊢ bigSep Finset.univ (fun l : Fin 4 => bigSep (Finset.range 16) fun j => any (orow c (jf j) l) c) := by
  refine (Entails.of_eq (pointsTo_blocks (Ix := ℕ) (Name := ℕ) (U := UU) (Lvl := ℕ) (q := fullShare)
    (rowSet c) (rows_disjoint c) (rows_cover c) f)).trans ?_
  rw [bigSep_univ_prod]
  refine bigSep_mono fun l _ => ?_
  rw [← bigSep_sixteen (fun j => any (orow c j l) c)]
  exact bigSep_mono fun j _ => any_of (orow c j l) c f

/-- and the rows, once written, make it whole. -/
theorem rows_join (c : Dev nD) (v : Fin 4 → ℕ → FVec F S64x2048 .f32) (f₀ : Buf (Elt F) ((c : Thread nD τ).loc main_v1)) :
    bigSep Finset.univ (fun l : Fin 4 => bigSep (Finset.range 16) fun j => has (orow c (jf j) l) c (v l j))
      ⊢ (iprop(∃ f : Buf (Elt F) ((c : Thread nD τ).loc main_v1), ⌜∀ (l : Fin 4) (j : Fin 16), (orow c j l).view.read (Elt F) f = v l j.val⌝
          ∗ (c : Thread nD τ).loc main_v1 ↦{fullShare} f) : sProp 𝕄) := by
  have e : bigSep Finset.univ (fun l : Fin 4 => bigSep (Finset.range 16) fun j => has (orow c (jf j) l) c (v l j))
      = bigSep Finset.univ (fun y : Fin 4 × Fin 16 => has (orow c y.2 y.1) c (v y.1 y.2.val)) := by
    rw [bigSep_univ_prod]
    refine bigSep_congr fun l _ => ?_
    rw [bigSep_sixteen]
    refine bigSep_congr fun j hj => ?_
    rw [show (jf j).val = j from Nat.mod_eq_of_lt (Finset.mem_range.mp hj)]
  rw [e, bigSep_congr fun y _ => has_row c y _]
  have : Nonempty (Buf (Elt F) ((c : Thread nD τ).loc main_v1)) := ⟨f₀⟩
  refine (Idealize.SL.BI.bigSep_exists_pi Finset.univ (fun (y : Fin 4 × Fin 16) (f : Buf (Elt F) ((c : Thread nD τ).loc main_v1)) =>
    (iprop(⌜(orow c y.2 y.1).view.read (Elt F) f = v y.1 y.2.val⌝ ∗ (c : Thread nD τ).loc main_v1 ↦[rowSet c y]{fullShare} f) : sProp 𝕄))).trans ?_
  iintro ⟨%fs, H⟩
  ihave H := (bigSep_facts Finset.univ _ _) $$ H
  icases H with ⟨%hr, H⟩
  ihave H := (pointsTo_biUnion_join Finset.univ (rowSet c) fs f₀ (fun y _ z _ h => rows_disjoint c y z h)) $$ H
  rw [rows_cover]
  icases H with ⟨%g, %hg, H⟩
  iexists g
  isplitr
  · ipureintro
    intro l j
    exact (View.read_congr fun i hi => hg (l, j) (Finset.mem_univ _) i hi).trans (hr (l, j) (Finset.mem_univ _))
  · iexact H

end Cert.RingProof

end
-- ==== Proof.Close.lean ====
/-
A device's end: its cells at zero again, its buffers whole again, the result written.
-/
module

public import proofs.«01_k».proof.Proof.Blocks

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig ℕ (Elt F) ℕ UU ℕ

variable (m : (ℓ : Loc nD τ sig) → Buf (Elt F) ℓ) (K : Dev nD × CK → ℕ) (J : SK → ℕ) (c : Dev nD)

/-- A cell past its last round is at zero. -/
theorem close_cell (x : CK) (R : ℕ) (hR : ∀ r, R ≤ r → dutySet x r = ∅) :
    iprop(ctx m K J ∗ atPos ER (kcell (c, x)) R ∅ 0) ⊢ iprop(|={Set.univ}=> semVal (kcell (c, x)) 0) := by
  iintro ⟨#Hc, Hat⟩
  iapply (Rounds.cell_close ER (Rd m) (Set.mem_univ (K (c, x))) (fun h => h) (R := R) (duties_later m c x R hR))
  isplitr
  · iapply (ctx_inv m K J c x); iexact Hc
  · iexact Hat

/-- A lane's credit cell, all of its credits taken, is at zero. -/
theorem close_credits (l : Fin 4) : iprop(ctx m K J ∗ posC c l 28) ⊢ iprop(|={Set.univ}=> semVal (credC c l) 0 : sProp 𝕄) := by
  unfold posC
  iintro ⟨#Hc, ⟨%T, %hT, Hat, -⟩⟩
  have hsub : (Rd (F := F) m).duties (credC c l) 0 ⊆ T := by
    rw [show (Rd (F := F) m).duties (credC c l) 0 = Finset.range 28 from duties_at m c (some (l, .cred)) 0]
    exact Finset.sdiff_eq_empty_iff_subset.mp (Finset.card_eq_zero.mp (by have := hT.2; omega))
  imod (Rounds.fupd_skip ER (Rd m) (κ := K (c, some (l, .cred))) (g := credC c l) (R := 0) hsub (expect_cred m c l).symm (Set.mem_univ _)) $$ [Hat] with ⟨Hat, -⟩
  · isplitr
    · iapply (ctx_inv m K J c (some (l, .cred))); iexact Hc
    · iexact Hat
  iapply (close_cell m K J c (some (l, .cred)) 1 fun r hr => if_neg (by omega))
  isplitr
  · iexact Hc
  · iexact Hat

/-- Lane `l`'s cells at zero. -/
def zeros (l : Fin 4) : sProp 𝕄 := bigSep Finset.univ fun k : Kd => semVal (kcell (c, some (l, k))) 0

theorem zeros_intro (l : Fin 4) :
    iprop(semVal (sendC c l 0) 0 ∗ semVal (sendC c l 1) 0 ∗ semVal (recvC c l 0) 0 ∗ semVal (recvC c l 1) 0
      ∗ semVal (stC c l 0) 0 ∗ semVal (stC c l 1) 0 ∗ semVal (credC c l) 0) ⊢ zeros (F := F) c l :=
  Entails.of_eq (by unfold zeros; rw [bigSep_univ_eq_bigSepL Kd.all (by decide) (by decide)]; rfl)

/-- Two steps in a row, the first even, use the two slots. -/
theorem by_parity (n : ℕ) (hn : n % 2 = 0) (Φ : Fin 2 → sProp 𝕄) : bigSep (Finset.Ico n (n + 2)) (fun t => Φ (par t)) ⊢ iprop(Φ 0 ∗ Φ 1) := by
  have h0 : par n = 0 := Fin.ext hn
  have h1 : par (n + 1) = 1 := Fin.ext (by show (n + 1) % 2 = 1; omega)
  have e : Finset.Ico n (n + 2) = insert n (insert (n + 1) ∅) := by
    ext x
    simp only [Finset.mem_Ico, Finset.mem_insert, Finset.notMem_empty, or_false]
    omega
  refine Entails.of_eq ?_
  rw [e, bigSep_eq_bigSepL_of_eq [n, n + 1] (by simp) (by simp), bigSepL_cons_cons, bigSepL_singleton, h0, h1]
  rfl

/-- A lane that is done gives its cells at zero, the rows it wrote, and its slots. -/
theorem close_lane (l : Fin 4) :
    iprop(ctx m K J ∗ done m c l)
      ⊢ iprop(|={Set.univ}=> (zeros c l ∗ (bigSep (Finset.range 16) fun j => has (orow c (jf j) l) c (outV m c l j)) ∗ pair sb c l ∗ pair rb c l ∗ pair sg c l)) := by
  unfold done rest outs pair rbs posS posR posO
  iintro ⟨#Hc, ⟨Hs0, Hs1, Hr0, Hr1, -⟩, Hcr, ⟨-, Hrows, Ho0, Ho1, -, -, -, Hsg⟩, Hsb, Hrb⟩
  imod (close_cell m K J c (some (l, .send 0)) 15 fun r hr => if_neg (by omega)) $$ [Hs0] with Zs0
  · isplitr
    · iexact Hc
    · iexact Hs0
  imod (close_cell m K J c (some (l, .send 1)) 15 fun r hr => if_neg (by omega)) $$ [Hs1] with Zs1
  · isplitr
    · iexact Hc
    · iexact Hs1
  imod (close_cell m K J c (some (l, .recv 0)) 15 fun r hr => if_neg (by omega)) $$ [Hr0] with Zr0
  · isplitr
    · iexact Hc
    · iexact Hr0
  imod (close_cell m K J c (some (l, .recv 1)) 15 fun r hr => if_neg (by omega)) $$ [Hr1] with Zr1
  · isplitr
    · iexact Hc
    · iexact Hr1
  imod (close_cell m K J c (some (l, .st 0)) 8 fun r hr => if_neg (by omega)) $$ [Ho0] with Zo0
  · isplitr
    · iexact Hc
    · iexact Ho0
  imod (close_cell m K J c (some (l, .st 1)) 8 fun r hr => if_neg (by omega)) $$ [Ho1] with Zo1
  · isplitr
    · iexact Hc
    · iexact Ho1
  imod (close_credits m K J c l) $$ [Hcr] with Zc
  · isplitr
    · iexact Hc
    · iexact Hcr
  ihave Hsg := (by_parity 16 rfl fun s => any (F := F) (slot sg l s) c) $$ Hsg
  imodintro
  isplitl [Zs0 Zs1 Zr0 Zr1 Zo0 Zo1 Zc]
  · iapply (zeros_intro c l)
    isplitl [Zs0]; · iexact Zs0
    isplitl [Zs1]; · iexact Zs1
    isplitl [Zr0]; · iexact Zr0
    isplitl [Zr1]; · iexact Zr1
    isplitl [Zo0]; · iexact Zo0
    isplitl [Zo1]; · iexact Zo1
    iexact Zc
  isplitl [Hrows]; · iexact Hrows
  isplitl [Hsb]; · iexact Hsb
  isplitl [Hrb]; · iexact Hrb
  iexact Hsg

/-- The result array holds what every lane wrote at every step. -/
def Written (f : Buf (Elt F) ((c : Thread nD τ).loc main_v1)) : Prop :=
  ∀ (l : Fin 4) (j : Fin 16), (orow c j l).view.read (Elt F) f = outV m c l j.val

/-- A buffer held whole. -/
def held (b : Ref sig .tc) : sProp 𝕄 := iprop(∃ f : Buf (Elt F) ((c : Thread nD τ).loc b), (c : Thread nD τ).loc b ↦{fullShare} f)

/-- The result held, as written. -/
def result : sProp 𝕄 :=
  iprop(∃ f : Buf (Elt F) ((c : Thread nD τ).loc main_v1), ⌜Written m c f⌝ ∗ (c : Thread nD τ).loc main_v1 ↦{fullShare} f)

/-- All lanes done give all cells at zero, the result as written, and the buffers. -/
theorem close_device :
    iprop(ctx m K J ∗ atPos ER (barC c) 1 ∅ 0 ∗ (done m c 0 ∗ done m c 1 ∗ done m c 2 ∗ done m c 3))
      ⊢ iprop(|={Set.univ}=> (semVal (barC c) 0 ∗ (bigSep Finset.univ fun l : Fin 4 => zeros c l) ∗ result m c
          ∗ held c cc0_scratch2 ∗ held c cc0_scratch3 ∗ held c cc0_scratch4)) := by
  iintro ⟨#Hc, Hb, D0, D1, D2, D3⟩
  imod (close_cell m K J c none 1 fun r hr => if_neg (by omega)) $$ [Hb] with Zb
  · isplitr
    · iexact Hc
    · iexact Hb
  imod (close_lane m K J c 0) $$ [D0] with ⟨Z0, R0, A0, B0, C0⟩
  · isplitr
    · iexact Hc
    · iexact D0
  imod (close_lane m K J c 1) $$ [D1] with ⟨Z1, R1, A1, B1, C1⟩
  · isplitr
    · iexact Hc
    · iexact D1
  imod (close_lane m K J c 2) $$ [D2] with ⟨Z2, R2, A2, B2, C2⟩
  · isplitr
    · iexact Hc
    · iexact D2
  imod (close_lane m K J c 3) $$ [D3] with ⟨Z3, R3, A3, B3, C3⟩
  · isplitr
    · iexact Hc
    · iexact D3
  ihave HR := (rows_join c (fun l j => outV m c l j) (m ((c : Thread nD τ).loc main_v1))) $$ [R0 R1 R2 R3]
  · rw [bigSep_lanes]
    isplitl [R0]; · iexact R0
    isplitl [R1]; · iexact R1
    isplitl [R2]; · iexact R2
    iexact R3
  ihave HA := (slots_join sb (View.set_whole cc0_scratch2) (fun c => m ((c : Thread nD τ).loc cc0_scratch2)) c) $$ [A0 A1 A2 A3]
  · isplitl [A0]; · iexact A0
    isplitl [A1]; · iexact A1
    isplitl [A2]; · iexact A2
    iexact A3
  ihave HB := (slots_join rb (View.set_whole cc0_scratch3) (fun c => m ((c : Thread nD τ).loc cc0_scratch3)) c) $$ [B0 B1 B2 B3]
  · isplitl [B0]; · iexact B0
    isplitl [B1]; · iexact B1
    isplitl [B2]; · iexact B2
    iexact B3
  ihave HC := (slots_join sg (View.set_whole cc0_scratch4) (fun c => m ((c : Thread nD τ).loc cc0_scratch4)) c) $$ [C0 C1 C2 C3]
  · isplitl [C0]; · iexact C0
    isplitl [C1]; · iexact C1
    isplitl [C2]; · iexact C2
    iexact C3
  imodintro
  isplitl [Zb]; · iexact Zb
  isplitl [Z0 Z1 Z2 Z3]
  · rw [bigSep_lanes]
    isplitl [Z0]; · iexact Z0
    isplitl [Z1]; · iexact Z1
    isplitl [Z2]; · iexact Z2
    iexact Z3
  isplitl [HR]; · unfold result Written; iexact HR
  unfold held
  isplitl [HA]; · iexact HA
  isplitl [HB]; · iexact HB
  iexact HC

end Cert.RingProof

end
-- ==== Proof.Ghost.lean ====
/-
The launch's share for each device: the tokens of the duties it pays, its positions, its part of the slots' protocol, and
the credits for what the others owe it.
-/
module

public import proofs.«01_k».proof.Proof.Close
public import proofs.«01_k».proof.Proof.Gen.KernelIdeal.Launch
public import Idealize.ShloMosaic.Lib.Pipeline.Launch
public import Idealize.ShloMosaic.Lib.Pipeline.Kit

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig ℕ (Elt F) ℕ UU ℕ

/-! ## Families -/

/-- A family over numbered indices as one over an interval. -/
theorem bigSep_upto (n : ℕ) (Ψ : ℕ → sProp 𝕄) : (bigSep Finset.univ fun t : Fin n => Ψ t.val) = bigSep (Finset.Ico 0 n) Ψ := by
  rw [← Finset.range_eq_Ico]; exact bigSep_fin_eq_range n _ Ψ fun _ _ => rfl

/-- Of a family, the members that an injective map names. -/
theorem bigSep_pull {I J : Type} [Fintype I] [DecidableEq I] [DecidableEq J] (f : I → J) (hf : Function.Injective f) (S : Finset J)
    (hS : ∀ i, f i ∈ S) (Φ : J → sProp 𝕄) : bigSep S Φ ⊢ bigSep Finset.univ fun i => Φ (f i) := by
  refine (BI.bigSep_subset (t := Finset.univ.map ⟨f, hf⟩) fun j hj => ?_).trans (Entails.of_eq (bigSep_map ⟨f, hf⟩))
  obtain ⟨i, -, rfl⟩ := Finset.mem_map.mp hj
  exact hS i

/-- What is persistent may be used at each member. -/
theorem bigSep_using {I : Type} [DecidableEq I] {S : Finset I} (R : sProp 𝕄) [BI.Persistent R] {Φ Ψ : I → sProp 𝕄}
    (h : ∀ i ∈ S, iprop(R ∗ Φ i) ⊢ Ψ i) : iprop(R ∗ bigSep S Φ) ⊢ bigSep S Ψ := by
  iintro ⟨HR, H⟩
  ihave HR := (BI.bigSep_of_persistent S R) $$ HR
  iapply (bigSep_each (s := S) (Φ := fun i => iprop(R ∗ Φ i)) h)
  rw [bigSep_sep']
  isplitl [HR] <;> iassumption

/-! ## Tokens -/

/-- The duties a device pays: the two signals of the handshake; and for each lane its departures, their arrivals
    downstream, its copies to the result, and the credits it gives. -/
abbrev Want : Type := Fin 2 ⊕ (Fin 4 × (Fin 30 ⊕ (Fin 30 ⊕ (Fin 16 ⊕ Fin 28))))

/-- The cell, round and duty of each. -/
def needOf (c : Dev nD) : Want → (Dev nD × CK) × ℕ × ℕ
  | .inl d => ((if d = 0 then lf c else rt c, none), 0, d.val)
  | .inr (l, .inl t) => ((c, some (l, .send (par t.val))), t.val / 2, 0)
  | .inr (l, .inr (.inl t)) => ((dn c l, some (l, .recv (par t.val))), t.val / 2, 0)
  | .inr (l, .inr (.inr (.inl t))) => ((c, some (l, .st (par t.val))), t.val / 2, 0)
  | .inr (l, .inr (.inr (.inr t))) => ((up c l, some (l, .cred)), 0, t.val)

theorem par_val (t : ℕ) : (par t).val = t % 2 := rfl

theorem num_inj {n : ℕ} {t t' : Fin n} (h : par t.val = par t'.val) (h' : t.val / 2 = t'.val / 2) : t = t' := by
  have := congrArg Fin.val h
  rw [par_val, par_val] at this
  exact Fin.ext (by omega)

theorem dn_inj {c c' : Dev nD} {l : Fin 4} (h : dn c l = dn c' l) : c = c' := by rw [← up_dn c l, h, up_dn]
theorem up_inj {c c' : Dev nD} {l : Fin 4} (h : up c l = up c' l) : c = c' := by rw [← dn_up c l, h, dn_up]
theorem lf_inj {c c' : Dev nD} (h : lf c = lf c') : c = c' := by rw [← rt_lf c, h, rt_lf]
theorem rt_inj {c c' : Dev nD} (h : rt c = rt c') : c = c' := by rw [← lf_rt c, h, lf_rt]

theorem needOf_injective : Function.Injective fun x : Dev nD × Want => needOf x.1 x.2 := by
  rintro ⟨c, d | ⟨l, t | t | t | t⟩⟩ ⟨c', d' | ⟨l', t' | t' | t' | t'⟩⟩ h <;>
    simp only [needOf, Prod.mk.injEq, Option.some.injEq, reduceCtorEq, Kd.send.injEq, Kd.recv.injEq, Kd.st.injEq, and_false, false_and, and_true, true_and] at h
  · obtain ⟨h1, h2⟩ := h
    have h3 : d = d' := Fin.ext h2
    subst h3
    by_cases h0 : d = 0
    · rw [if_pos h0, if_pos h0] at h1; rw [lf_inj h1]
    · rw [if_neg h0, if_neg h0] at h1; rw [rt_inj h1]
  · obtain ⟨⟨h1, h2, h3⟩, h4⟩ := h
    rw [h1, h2, num_inj h3 h4]
  · obtain ⟨⟨h1, h2, h3⟩, h4⟩ := h
    subst h2
    rw [dn_inj h1, num_inj h3 h4]
  · obtain ⟨⟨h1, h2, h3⟩, h4⟩ := h
    rw [h1, h2, num_inj h3 h4]
  · obtain ⟨⟨h1, h2⟩, h4⟩ := h
    subst h2
    rw [up_inj h1, Fin.ext h4]

def need (x : Dev nD × Want) : GSem nD τ sig × ℕ × ℕ := (kcell (needOf x.1 x.2).1, (needOf x.1 x.2).2)

theorem need_injective : Function.Injective need := fun x y h => by
  have h' := Prod.mk.inj (show (kcell (needOf x.1 x.2).1, (needOf x.1 x.2).2) = (kcell (needOf y.1 y.2).1, (needOf y.1 y.2).2) from h)
  exact needOf_injective (Prod.ext (kcell_injective h'.1) h'.2)

def ringCells : Finset (GSem nD τ sig) := Finset.univ.map ⟨kcell, kcell_injective⟩
def ringToks : Finset (GSem nD τ sig × ℕ × ℕ) := Finset.univ.map ⟨need, need_injective⟩

/-- A lane's tokens. -/
def laneToks (c : Dev nD) (l : Fin 4) : sProp 𝕄 :=
  iprop(bigSep (Finset.Ico 0 30) (tokS c l) ∗ bigSep (Finset.Ico 0 30) (tokR c l) ∗ bigSep (Finset.Ico 0 16) (tokO c l) ∗ bigSep (Finset.Ico 0 28) (tokC c l))
/-- A device's tokens. -/
def toks (c : Dev nD) : sProp 𝕄 :=
  iprop((dutyTok ER (barC (lf c)) 0 0 ∗ dutyTok ER (barC (rt c)) 0 1) ∗ bigSep Finset.univ fun l : Fin 4 => laneToks c l)

theorem toks_eq : (bigSep ringToks fun x => (dutyTok ER x.1 x.2.1 x.2.2 : sProp 𝕄)) = bigSep Finset.univ fun c : Dev nD => toks c := by
  unfold ringToks
  rw [bigSep_map, bigSep_univ_prod]
  refine bigSep_congr fun c _ => ?_
  rw [bigSep_univ_sum, bigSep_univ_prod]
  unfold toks
  refine congrArg₂ BI.sep ?_ (bigSep_congr fun l _ => ?_)
  · rw [bigSep_slots]; rfl
  · rw [bigSep_univ_sum, bigSep_univ_sum, bigSep_univ_sum]
    unfold laneToks
    rw [← bigSep_upto, ← bigSep_upto, ← bigSep_upto, ← bigSep_upto]
    rfl

/-! ## The slots' protocol -/

/-- The slots' invariants, at some names. -/
def slotsAll : sProp 𝕄 := iprop(∃ J : SK → ℕ, bigSep Finset.univ fun y : SK => Release.slotInv ES (J y) y (any (slot rb y.2.1 y.2.2) y.1))

instance slotsAll_persistent : BI.Persistent (slotsAll (F := F)) := by unfold slotsAll; infer_instance

/-- A lane's part: the counts of its own slots, and the rights to take those downstream. -/
def laneRels (c : Dev nD) (l : Fin 4) : sProp 𝕄 := iprop((rdr c l 0 ∗ rdr c l 1) ∗ bigSep (Finset.Ico 0 28) (tokW c l))
def rels (c : Dev nD) : sProp 𝕄 := bigSep Finset.univ fun l : Fin 4 => laneRels c l

def takeOf (x : Dev nD × Fin 4 × Fin 28) : SK × ℕ := ((dn x.1 x.2.1, x.2.1, par x.2.2.val), x.2.2.val / 2)

theorem takeOf_injective : Function.Injective takeOf := by
  rintro ⟨c, l, n⟩ ⟨c', l', n'⟩ h
  simp only [takeOf, Prod.mk.injEq] at h
  obtain ⟨⟨h1, h2, h3⟩, h4⟩ := h
  subst h2
  rw [dn_inj h1, num_inj h3 h4]

theorem takes_eq : (bigSep Finset.univ fun x => (Release.writeTok ES (takeOf x).1 ((takeOf x).2 + 1) : sProp 𝕄))
    = bigSep Finset.univ fun c : Dev nD => bigSep Finset.univ fun l : Fin 4 => bigSep (Finset.Ico 0 28) (tokW c l) := by
  rw [bigSep_univ_prod]
  refine bigSep_congr fun c _ => ?_
  rw [bigSep_univ_prod]
  refine bigSep_congr fun l _ => ?_
  rw [← bigSep_upto]; rfl

theorem reads_eq : (bigSep Finset.univ fun y : SK => (Release.readerAt ES y 0 : sProp 𝕄))
    = bigSep Finset.univ fun c : Dev nD => bigSep Finset.univ fun l : Fin 4 => iprop(rdr c l 0 ∗ rdr c l 1) := by
  rw [bigSep_univ_prod]
  refine bigSep_congr fun c _ => ?_
  rw [bigSep_univ_prod]
  refine bigSep_congr fun l _ => ?_
  rw [bigSep_slots]; rfl

theorem fund_slots : BI.own (ES (Release.initSlots (Finset.univ : Finset SK) 14))
    ⊢ iprop(|={Set.univ}=> (slotsAll (F := F) ∗ bigSep Finset.univ fun c : Dev nD => rels c)) := by
  iintro H
  imod (Release.slots_init ES (Finset.univ : Finset SK) 14 (fun y : SK => any (F := F) (slot rb y.2.1 y.2.2) y.1)) $$ H with ⟨%J, -, HI, HR, HW⟩
  ihave HW := (bigSep_pull takeOf takeOf_injective ((Finset.univ : Finset SK) ×ˢ Finset.range 14)
    (fun x => Finset.mem_product.mpr ⟨Finset.mem_univ _, Finset.mem_range.mpr (by have := x.2.2.isLt; show x.2.2.val / 2 < 14; omega)⟩)
    fun x => (Release.writeTok ES x.1 (x.2 + 1) : sProp 𝕄)) $$ HW
  ihave HW := (Entails.of_eq (takes_eq (F := F))) $$ HW
  ihave HR := (Entails.of_eq (reads_eq (F := F))) $$ HR
  imodintro
  isplitl [HI]
  · unfold slotsAll; iexists J; iexact HI
  unfold rels laneRels
  simp only [bigSep_sep']
  isplitl [HR] <;> iassumption

/-! ## Positions, and the launch's element -/

variable (m : (ℓ : Loc nD τ sig) → Buf (Elt F) ℓ) (K : Dev nD × CK → ℕ) (J : SK → ℕ)

/-- A family over a device's cells: the barrier's member, and each lane's. -/
theorem bigSep_cells (Φ : CK → sProp 𝕄) :
    bigSep Finset.univ Φ = iprop(Φ none ∗ bigSep Finset.univ fun l : Fin 4 => bigSep Finset.univ fun k : Kd => Φ (some (l, k))) := by
  rw [bigSep_univ_at Φ none, show (Finset.univ.erase none : Finset CK) = Finset.univ.map ⟨some, Option.some_injective _⟩ from ?_, bigSep_map, bigSep_univ_prod]
  · rfl
  · ext x
    rw [Finset.mem_erase, Finset.mem_map]
    cases x with
    | none => exact ⟨fun h => absurd rfl h.1, fun h => (by obtain ⟨y, _, h⟩ := h; cases h)⟩
    | some y => exact ⟨fun _ => ⟨y, Finset.mem_univ _, rfl⟩, fun _ => ⟨fun h => (by cases h), Finset.mem_univ _⟩⟩

/-- A family over a lane's cells. -/
theorem bigSep_kinds (Φ : Kd → sProp 𝕄) :
    bigSep Finset.univ Φ = iprop(Φ (.send 0) ∗ Φ (.send 1) ∗ Φ (.recv 0) ∗ Φ (.recv 1) ∗ Φ (.st 0) ∗ Φ (.st 1) ∗ Φ .cred) :=
  bigSep_univ_eq_bigSepL Kd.all (by decide) (by decide) Φ

/-- A lane's first positions. -/
def laneAts (c : Dev nD) (l : Fin 4) : sProp 𝕄 := bigSep Finset.univ fun k : Kd => atPos ER (kcell (c, some (l, k))) 0 ∅ 0

/-- What the launch deals device `c`. -/
def deal (c : Dev nD) : sProp 𝕄 :=
  iprop((bigSep Finset.univ fun k : CK => roundState ER (Rd m) (kcell (c, k)) 0)
    ∗ (bigSep Finset.univ fun k : CK => atPos ER (kcell (c, k)) 0 ∅ 0) ∗ (bigSep Finset.univ fun k : CK => reached ER (kcell (c, k)) 0)
    ∗ toks c ∗ slotsAll ∗ rels c)

/-- The element the launch starts from. -/
def u₀ : UU :=
  (initOf (Pipeline.cells cfgs cellOf_inj) (Pipeline.launchToks cfgs cellOf_inj), (initOf ringCells ringToks, Release.initSlots (Finset.univ : Finset SK) 14))

theorem cells_eq (Φ : GSem nD τ sig → sProp 𝕄) :
    bigSep ringCells Φ = bigSep Finset.univ fun c : Dev nD => bigSep Finset.univ fun k : CK => Φ (kcell (c, k)) := by
  unfold ringCells
  rw [bigSep_map, bigSep_univ_prod]; rfl

theorem fund_ring : BI.own (embR (initOf ringCells ringToks, Release.initSlots (Finset.univ : Finset SK) 14))
    ⊢ iprop(|={Set.univ}=> bigSep Finset.univ (deal m)) := by
  iintro H
  ihave H := (own_pair_emb embR (initOf ringCells ringToks) (Release.initSlots (Finset.univ : Finset SK) 14)) $$ H
  icases H with ⟨HX, HY⟩
  imod (fund_slots (F := F)) $$ HY with ⟨#HS, HR⟩
  imod (Rounds.fund ER (Rd m) ringCells ringToks) $$ HX with ⟨Hst, Hr, Hat, Htok⟩
  ihave Hst := (Entails.of_eq (cells_eq fun g => roundState ER (Rd m) g 0)) $$ Hst
  ihave Hat := (Entails.of_eq (cells_eq fun g => atPos ER g 0 ∅ 0)) $$ Hat
  ihave Hr := (Entails.of_eq (cells_eq fun g => reached ER g 0)) $$ Hr
  ihave Htok := (Entails.of_eq (toks_eq (F := F))) $$ Htok
  ihave HS := (BI.bigSep_of_persistent (Finset.univ : Finset (Dev nD)) (slotsAll (F := F))) $$ HS
  imodintro
  unfold deal
  simp only [bigSep_sep']
  isplitl [Hst]; · iexact Hst
  isplitl [Hat]; · iexact Hat
  isplitl [Hr]; · iexact Hr
  isplitl [Htok]; · iexact Htok
  isplitl [HS]; · iexact HS
  iexact HR

/-! ## The cells' invariants, of all devices at once -/

theorem ownSems0_eq (c : Dev nD) : (Pipeline.ownSems0 (Ix := ℕ) (Name := ℕ) (U := UU) (Lvl := ℕ) (Val := Elt F) (τ := τ) osem c : sProp 𝕄)
    = bigSep Finset.univ fun l : Fin 4 => zeros c l := by
  unfold Pipeline.ownSems0
  rw [bigSep_univ_prod]; rfl
theorem unscopedSems0_eq (c : Dev nD) : (unscopedSems0 c : sProp 𝕄) = semVal (barC c) 0 := by
  unfold unscopedSems0; rw [bigSep_eq_bigSepL_of_eq [SemLoc.reg bsem] (by decide +kernel) (by decide)]; rfl

/-- What a device keeps of its share. -/
def mine (c : Dev nD) : sProp 𝕄 :=
  iprop((bigSep Finset.univ fun k : CK => atPos ER (kcell (c, k)) 0 ∅ 0) ∗ toks c ∗ rels c)

/-- What all know, apart from the levels. -/
def known (K : Dev nD × CK → ℕ) : sProp 𝕄 :=
  iprop((bigSep Finset.univ fun y : Dev nD × CK => cellInv ER (Rd m) (K y) (kcell y))
    ∗ (bigSep Finset.univ fun y : Dev nD × CK => reached ER (kcell y) 0) ∗ slotsAll)

instance known_persistent : BI.Persistent (known m K) := by unfold known; infer_instance

/-- What the global step gives device `c`. -/
def got (c : Dev nD) : sProp 𝕄 := iprop(∃ K, known m K ∗ mine c)

theorem open_cells (c : Dev nD) :
    iprop(Pipeline.ownSems0 (Ix := ℕ) (Name := ℕ) (U := UU) (Lvl := ℕ) (Val := Elt F) (τ := τ) osem c ∗ unscopedSems0 c ∗ deal m c)
      ⊢ iprop(|={Set.univ}=> ((bigSep Finset.univ fun k : CK => iprop(∃ κ : ℕ, cellInv ER (Rd m) κ (kcell (c, k))))
          ∗ (bigSep Finset.univ fun k : CK => reached ER (kcell (c, k)) 0) ∗ slotsAll ∗ mine c)) := by
  rw [ownSems0_eq, unscopedSems0_eq]
  unfold deal mine
  iintro ⟨Hos, Hus, Hst, Hat, Hr, Htok, HS, HR⟩
  ihave Hv := (show iprop((bigSep Finset.univ fun l : Fin 4 => zeros c l) ∗ semVal (barC c) 0)
      ⊢ (bigSep Finset.univ fun k : CK => semVal (kcell (c, k)) 0 : sProp 𝕄) from by
    rw [bigSep_cells]; unfold zeros
    iintro ⟨H1, H2⟩
    isplitl [H2] <;> iassumption) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [HS]; · iexact HS
  isplitl [Hat]; · iexact Hat
  isplitl [Htok]; · iexact Htok
  iexact HR

theorem share_out :
    (bigSep Finset.univ fun c : Dev nD => iprop((bigSep Finset.univ fun k : CK => iprop(∃ κ : ℕ, cellInv ER (Rd m) κ (kcell (c, k))))
          ∗ (bigSep Finset.univ fun k : CK => reached ER (kcell (c, k)) 0) ∗ slotsAll ∗ mine c))
      ⊢ bigSep Finset.univ (got m) := by
  rw [bigSep_sep', bigSep_sep', bigSep_sep', ← bigSep_univ_prod (fun y : Dev nD × CK => iprop(∃ κ : ℕ, cellInv ER (Rd m) κ (kcell y))),
    ← bigSep_univ_prod (fun y : Dev nD × CK => (reached ER (kcell y) 0 : sProp 𝕄))]
  iintro ⟨HI, #HR, HS, Hm⟩
  ihave HK := (BI.bigSep_exists_pi Finset.univ (fun (y : Dev nD × CK) (κ : ℕ) => (cellInv ER (Rd m) κ (kcell y) : sProp 𝕄))) $$ HI
  icases HK with ⟨%K, #HI⟩
  ihave HS := (pick (Finset.mem_univ (0 : Dev nD)) fun _ => (slotsAll (F := F))) $$ HS
  iapply (bigSep_using (S := Finset.univ) (Φ := mine) (Ψ := got m) (known m K) fun c _ => by
    unfold got
    iintro ⟨H, H'⟩
    iexists K
    isplitl [H] <;> iassumption)
  isplitl [HS]
  · unfold known
    isplitr; · iexact HI
    isplitr; · iexact HR
    iexact HS
  · iexact Hm

theorem glob : (bigSep Finset.univ fun c => iprop(Pipeline.ownSems0 (Ix := ℕ) (Name := ℕ) (U := UU) (Lvl := ℕ) (Val := Elt F) (τ := τ) osem c ∗ unscopedSems0 c ∗ deal m c) : sProp 𝕄)
    ⊢ iprop(|={Set.univ}=> bigSep Finset.univ (got m)) :=
  ((bigSep_mono fun c _ => open_cells m c).trans (bigSep_fupd _ _)).trans (BI.fupd_mono (share_out m))

/-! ## The credits for what the others owe -/

def laneCreds (c : Dev nD) (l : Fin 4) : sProp 𝕄 := iprop(bigSep (Finset.Ico 0 30) (crR c l) ∗ bigSep (Finset.Ico 0 28) (crC c l))

theorem creds_lane (c : Dev nD) (l : Fin 4) : (Pipeline.launchCred (fun d => oweL d l 0 0) c : sProp 𝕄) ⊢ laneCreds c l := by
  unfold oweL laneCreds
  rw [Pipeline.launchCred_add, Pipeline.launchCred_sum, Pipeline.launchCred_sum]
  iintro ⟨H1, H2⟩
  isplitl [H1]
  · iapply (bigSep_each fun t _ => Pipeline.launchCred_tallyAt (.dma (dsem cc0_scratch6 l (par t))) (fun d => dn d l) (fun d => up d l)
      (fun d => dn_up d l) (fun d => up_dn d l) t NT c)
    iexact H1
  · iapply (bigSep_each fun t _ => Pipeline.launchCred_tallyAt (.reg (csem l)) (fun d => up d l) (fun d => dn d l)
      (fun d => up_dn d l) (fun d => dn_up d l) t 1 c)
    iexact H2

theorem creds (c : Dev nD) :
    (Pipeline.launchCred O₀ c : sProp 𝕄) ⊢ iprop(cred (tallyAt (barC c) 0 2) ∗ bigSep Finset.univ fun l : Fin 4 => laneCreds c l) := by
  have h : (O₀ : Dev nD → CellTallies nD τ sig ℕ) = fun d => (((((oweL d 0 0 0 + oweL d 1 0 0) + oweL d 2 0 0) + oweL d 3 0 0) + tallyAt (barC (rt d)) 0 1) + tallyAt (barC (lf d)) 0 1) := rfl
  rw [h, Pipeline.launchCred_add, Pipeline.launchCred_add, Pipeline.launchCred_add, Pipeline.launchCred_add, Pipeline.launchCred_add, bigSep_lanes,
    ← tallyAt_add (barC c) 0 1 1]
  iintro ⟨⟨⟨⟨⟨H0, H1⟩, H2⟩, H3⟩, Hr⟩, Hl⟩
  isplitl [Hr Hl]
  · iapply (cred_add _ _).2
    isplitl [Hr]
    · iapply (Pipeline.launchCred_tallyAt (.reg bsem) rt lf rt_lf lf_rt 0 1 c); iexact Hr
    · iapply (Pipeline.launchCred_tallyAt (.reg bsem) lf rt lf_rt rt_lf 0 1 c); iexact Hl
  isplitl [H0]; · iapply (creds_lane c 0); iexact H0
  isplitl [H1]; · iapply (creds_lane c 1); iexact H1
  isplitl [H2]; · iapply (creds_lane c 2); iexact H2
  iapply (creds_lane c 3); iexact H3

end Cert.RingProof

end
-- ==== Proof.Launch.lean ====
/-
The launch: each device's start made of its share, the body's obligation, and the run of the whole mesh.
-/
module

public import proofs.«01_k».proof.Proof.Ghost
public import Idealize.ShloMosaic.Lib.Pipeline.CollectiveSegs
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Pipeline

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ) (J : SK → ℕ) (c : Dev nD)

/-! ## A device's start -/

/-- What all know, with the levels. -/
theorem ctx_intro : iprop(known m K ∗ levAts L lv) ⊢ iprop(∃ J, ctx m K J) := by
  unfold known slotsAll ctx
  iintro ⟨⟨HI, HR, ⟨%J, HS⟩⟩, HL⟩
  iexists J
  isplitl [HI]; · iexact HI
  isplitl [HR]; · iexact HR
  isplitl [HL]; · iexact HL
  iexact HS

theorem laneAts_split (l : Fin 4) :
    laneAts c l ⊢ iprop(posS c l 0 ∗ posS c l 1 ∗ posR c l 0 ∗ posR c l 1 ∗ posO c l 0 ∗ posO c l 1 ∗ atPos ER (credC c l) 0 ∅ 0 : sProp 𝕄) :=
  Entails.of_eq (by unfold laneAts; rw [bigSep_kinds]; rfl)

theorem posC_intro (l : Fin 4) : (atPos ER (credC c l) 0 ∅ 0 : sProp 𝕄) ⊢ posC c l 0 := by
  unfold posC
  iintro H
  iexists ∅
  isplitr
  · ipureintro; exact ⟨Finset.empty_subset _, by rw [Finset.sdiff_empty, Finset.card_range]⟩
  isplitl [H]; · iexact H
  rw [bigSep_empty]; iempintro

theorem stages_intro (l : Fin 4) : pair (F := F) sg c l ⊢ bigSep (Finset.Ico 0 (0 + 2)) fun s => any (slot sg l (par s)) c := by
  rw [← bigSep_upto 2 fun s => any (F := F) (slot sg l (par s)) c, bigSep_slots]
  exact Entails.refl _

/-- A lane's share makes it ready. -/
theorem seat_intro (l : Fin 4) :
    iprop(ctx m K J ∗ laneAts c l ∗ laneToks c l ∗ laneRels c l ∗ laneCreds c l
        ∗ (bigSep (Finset.range 16) fun j => any (orow c (jf j) l) c) ∗ pair sb c l ∗ pair sg c l)
      ⊢ seat m c l := by
  rw [Finset.range_eq_Ico]
  unfold seat rest giver outs laneToks laneRels laneCreds freedTo
  simp only [bigSep_sep', Finset.range_zero, bigSep_empty, Finset.Ico_self]
  iintro ⟨#Hc, Hat, ⟨TS, TR, TO, TC⟩, ⟨⟨R0, R1⟩, TW⟩, ⟨CR, CC⟩, Hrows, Hsb, Hsg⟩
  ihave Hat := (laneAts_split (F := F) c l) $$ Hat
  icases Hat with ⟨S0, S1, P0, P1, O0, O1, Cc⟩
  ihave Cc := (posC_intro (F := F) c l) $$ Cc
  ihave Hsg := (stages_intro (F := F) c l) $$ Hsg
  isplitl [S0 S1 P0 P1 CR]
  · isplitl [S0]; · iexact S0
    isplitl [S1]; · iexact S1
    isplitl [P0]; · iexact P0
    isplitl [P1]; · iexact P1
    iexact CR
  isplitl [Cc CC TW TS TR]
  · isplitl [Cc]; · iexact Cc
    isplitl [CC TW]
    · isplitl [CC] <;> iassumption
    · isplitl [TS] <;> iassumption
  isplitl [R0 R1 TC]
  · isplitl [R0]; · iexact R0
    isplitl [R1]; · iexact R1
    isplitr; · iempintro
    iexact TC
  isplitl [TO Hrows O0 O1 Hsg]
  · isplitl [TO Hrows]
    · isplitl [TO] <;> iassumption
    isplitr; · iempintro
    isplitl [O0]; · iexact O0
    isplitl [O1]; · iexact O1
    isplitr; · iapply (show ctx m K J ⊢ rchO c l 0 from ctx_reached m K J c (some (l, .st 0))); iexact Hc
    isplitr; · iapply (show ctx m K J ⊢ rchO c l (0 + 1) from ctx_reached m K J c (some (l, .st 1))); iexact Hc
    isplitr; · iempintro
    iexact Hsg
  unfold pair
  iexact Hsb

/-- The lanes' families, lane by lane. -/
theorem lanes_intro :
    iprop(ctx m K J ∗ (bigSep Finset.univ fun l : Fin 4 => laneAts c l) ∗ (bigSep Finset.univ fun l : Fin 4 => laneToks c l)
        ∗ (bigSep Finset.univ fun l : Fin 4 => laneRels c l) ∗ (bigSep Finset.univ fun l : Fin 4 => laneCreds c l)
        ∗ (bigSep Finset.univ fun l : Fin 4 => bigSep (Finset.range 16) fun j => any (orow c (jf j) l) c)
        ∗ (bigSep Finset.univ fun l : Fin 4 => pair sb c l) ∗ (bigSep Finset.univ fun l : Fin 4 => pair sg c l))
      ⊢ iprop(seat m c 0 ∗ seat m c 1 ∗ seat m c 2 ∗ seat m c 3) := by
  rw [← bigSep_lanes fun l => seat m c l]
  simp only [← bigSep_sep']
  exact bigSep_using (ctx m K J) fun l _ => seat_intro m K J c l

/-- What device `c` starts with, its scratch buffers apart. -/
def start : sProp 𝕄 :=
  iprop((∃ K J, ctx m K J) ∗ mine c ∗ (cred (tallyAt (barC c) 0 2) ∗ bigSep Finset.univ fun l : Fin 4 => laneCreds c l)
    ∗ bigSep Finset.univ fun l : Fin 4 => bigSep (Finset.range 16) fun j => any (orow c (jf j) l) c)

/-- The scratch buffers. -/
def scratch : sProp 𝕄 := iprop(held c cc0_scratch0 ∗ held c cc0_scratch1 ∗ held c cc0_scratch2 ∗ held c cc0_scratch3 ∗ held c cc0_scratch4)

/-- Before the body, and after it. -/
def Φ₀ : sProp 𝕄 := iprop(start m c ∗ scratch c)
def Φ₁ : sProp 𝕄 := iprop((semVal (barC c) 0 ∗ result m c) ∗ (bigSep Finset.univ fun l : Fin 4 => zeros c l) ∗ scratch c)

/-- The pipeline's data: both windows' arrays are arguments, whose blocks the body leaves as they are. -/
def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_staged (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at known contents. -/
abbrev staged (b : Ref sig .tc) (X : b.ty.Contents (Elt F)) : sProp 𝕄 :=
  iprop(∃ f : Buf (Elt F) ((c : Thread nD τ).loc b), ⌜f = X⌝ ∗ ((c : Thread nD τ).loc b ↦{fullShare} f))

def before : sProp 𝕄 :=
  iprop(Φ₀ m c ∗ (dats m 0 c).owesAt 0 t0_0.castSucc
    ∗ (∃ d, staged c cc0_stg0_0 ((dats m 0 c).before (0 : Fin 2) t0_0 d)) ∗ (∃ d, staged c cc0_stg1_0 ((dats m 0 c).before (1 : Fin 2) t0_0 d)))
def after : sProp 𝕄 :=
  iprop(Φ₁ m c ∗ (dats m 0 c).owesAt 0 t0_0.succ ∗ staged c cc0_stg0_0 (xstg m c) ∗ staged c cc0_stg1_0 (wstg m c))

theorem run_body : before m c ⊢ WP c (bodyAt0 t0_0) (fun _ => after m c) := by
  rw [body_eq]
  simp only [WP, wp_deviceId]
  unfold before Φ₀ start scratch mine toks rels held
  rw [bigSep_cells]
  iintro ⟨⟨⟨⟨%K, %J, #Hc⟩, ⟨⟨Hb, Hat⟩, ⟨⟨Tl, Tr⟩, Tk⟩, Hrel⟩, ⟨Hcb, Hcr⟩, Hrows⟩, ⟨%fx, HX⟩, ⟨%fw, HW⟩, HB2, HB3, HB4⟩, Ho,
    ⟨%d0, %g0, %hg0, Hx⟩, ⟨%d1, %g1, %hg1, Hw⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = O₀ c from rfl]
  ihave H2 := (slots_split sb (View.set_whole cc0_scratch2) c) $$ [HB2]
  · iexact HB2
  ihave H3 := (slots_split rb (View.set_whole cc0_scratch3) c) $$ [HB3]
  · iexact HB3
  ihave H4 := (slots_split sg (View.set_whole cc0_scratch4) c) $$ [HB4]
  · iexact HB4
  iapply (wp_device m K J c fx fw)
  isplitr; · iexact Hc
  isplitl [Hb Hcb Tl Tr]
  · unfold greet
    isplitl [Hb]; · iexact Hb
    isplitl [Hcb]; · iexact Hcb
    isplitl [Tl] <;> iassumption
  isplitl [H3]; · unfold pair rbs; iexact H3
  isplitl [Hat Tk Hrel Hcr Hrows H2 H4]
  · iapply (lanes_intro m K J c)
    isplitr; · iexact Hc
    isplitl [Hat]; · unfold laneAts; iexact Hat
    isplitl [Tk]; · iexact Tk
    isplitl [Hrel]; · iexact Hrel
    isplitl [Hcr]; · iexact Hcr
    isplitl [Hrows]; · iexact Hrows
    isplitl [H2]; · rw [bigSep_lanes]; iexact H2
    rw [bigSep_lanes]; iexact H4
  isplitl [Hx Hw]
  · unfold stgs
    isplitl [Hx] <;> iassumption
  isplitl [HX]; · iexact HX
  isplitl [HW]; · iexact HW
  isplitl [HO]; · unfold owesX; iexists W; iexact HO
  iintro ⟨Hst, Hbufs, Hb, Hd, HO⟩
  imod (close_device m K J c) $$ [Hb Hd] with ⟨Zb, Z, HR, HB2, HB3, HB4⟩
  · isplitr; · iexact Hc
    isplitl [Hb] <;> iassumption
  rw [wp_ret]; imodintro
  unfold after Φ₁ scratch Dat.owesAt Pipeline.owesWithin stgs bufs owesX
  rw [show (dats m 0 c).owed t0_0.succ = 0 from rfl]
  icases Hst with ⟨Hx, Hw⟩
  icases Hbufs with ⟨HX, HW⟩
  icases HO with ⟨%W', HO⟩
  isplitl [Zb Z HR HX HW HB2 HB3 HB4]
  · isplitl [Zb HR]
    · isplitl [Zb] <;> iassumption
    isplitl [Z]; · iexact Z
    isplitl [HX]; · unfold held; iexists _; iexact HX
    isplitl [HW]; · unfold held; iexists _; iexact HW
    isplitl [HB2]; · iexact HB2
    isplitl [HB3]; · iexact HB3
    iexact HB4
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 8000 in
/-- The body's obligation at the pipeline's only point. -/
theorem body_obligation : BodyObligation (dats (F := F) m 0 c) (defs₀ (F := F)) 𝒱₀ 0 Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_staged]
  have h : (defs₀ (F := F)) Proc.tc (0 : Fin 1) (t0_0, cfg0.slots t0_0) = bodyAt0 t0_0 := rfl
  generalize (defs₀ (F := F)) Proc.tc (0 : Fin 1) (t0_0, cfg0.slots t0_0) = p at h ⊢
  have hp := h ▸ run_body m c
  exact hp

/-! ## The launch theorem's side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ got m c)
      ⊢ iprop(|={Set.univ}=> (start m c ∗ emp)) := by
  rw [show (Pipeline.unscopedRestP Pipeline.Prefetch.none cfg0.spec c (fun b => m ((c : Thread nD τ).loc b)) : sProp 𝕄)
      = ((c : Thread nD τ).loc main_v1 ↦{fullShare} m ((c : Thread nD τ).loc main_v1)) from unscopedRest0_eq c _]
  unfold got start
  iintro ⟨Hv, HL, Hcr, -, ⟨%K, Hk, Hm⟩⟩
  ihave Hc := (ctx_intro m K) $$ [Hk HL]
  · isplitl [Hk] <;> iassumption
  ihave Hcr := (creds (F := F) c) $$ Hcr
  ihave Hv := (rows_split c (m ((c : Thread nD τ).loc main_v1))) $$ Hv
  imodintro
  isplitl
  · isplitl [Hc]; · iexists K; iexact Hc
    isplitl [Hm]; · iexact Hm
    isplitl [Hcr]; · iexact Hcr
    iexact Hv
  · iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch held
  iintro ⟨Hs, -, Hr⟩
  isplitl [Hs] <;> iassumption

theorem leave :
    (dats m 0 c).Φ (Fin.last cfg0.N) ⊢ iprop((semVal (barC c) 0 ∗ result m c) ∗ Pipeline.ownSems0 osem c ∗ Pipeline.scopedRest cfg0.spec c) := by
  rw [show (dats m 0 c).Φ (Fin.last cfg0.N) = Φ₁ m c from rfl, scopedRest0_eq, ownSems0_eq]
  unfold Φ₁ scratch held
  exact Entails.refl _

/-- The final memory holds the result as written. -/
theorem read_result (s' : _) : iprop(result m c ∗ SI s') ⊢ iprop(⌜Written m c (s'.mem.mem ((c : Thread nD τ).loc main_v1))⌝ ∗ SI s' : sProp 𝕄) := by
  unfold result
  iintro ⟨⟨%f, %hf, Hv⟩, HSI⟩
  ihave H := (pointsTo_read_all (Finset.univ : Finset (Fin 1)) (fun _ => (c : Thread nD τ).loc main_v1) (fun _ => f)) $$ [Hv HSI]
  · isplitl [Hv]
    · rw [bigSep_univ_at _ (0 : Fin 1), show (Finset.univ.erase (0 : Fin 1)) = ∅ from by decide, bigSep_empty]
      isplitl [Hv]; · iexact Hv
      iempintro
    · iexact HSI
  icases H with ⟨%h, HSI⟩
  isplitr
  · ipureintro
    rw [h 0 (Finset.mem_univ _)]
    exact hf
  · iexact HSI

theorem share_eq (w : Fin cfg0.W) : (dats m 0 c).share w = fullShare := by unfold Dat.share; split <;> rfl

/-- No staging semaphore is one of the protocol's. -/
theorem stage_apart (w : Fin cfg0.W) (s : Fin (cfg0.win w).nbuf) (x : CK) : asem x ≠ .dma ((cfg0.win w).sem s) := by
  revert w s x; decide +kernel

theorem waits : (levAts L lv : sProp 𝕄) ⊢ Pipeline.cellsWaits cfgs (dats m) 0 0 c :=
  Pipeline.cellsWaits_intro cfgs (dats m) 0 0 c fun w s t =>
    mayWait_of_above c _ 0 (by decide) _ (by
      have h : Above 0 ((dats m 0 c).owed t) := by
        rcases t with ⟨_ | _, ht⟩
        · exact O₀_above c
        · exact Above.zero 0
      refine h.mono (Nat.le_of_eq ?_)
      refine Function.extend_apply' _ _ _ fun ⟨y, hy⟩ => ?_
      exact stage_apart w s y.2 (congrArg Prod.snd hy))

/-! ## The run -/

/-- The memory at launch: any contents, all counters at zero. -/
def s₀ : MemSt nD τ sig (Elt F) := ⟨m, fun _ => 0, ρ⟩

/-- What holds of each device after the run. -/
def Ran (r : PUnit × MemSt nD τ sig (Elt F)) : Prop :=
  ∀ c : Dev nD, (∀ w : Fin cfg0.W, r.2.mem ((cfg0.win w).arr.view.loc (c : Thread nD τ)) = (dats m 0 c).arrAt w cfg0.N)
    ∧ Written m c (r.2.mem ((c : Thread nD τ).loc main_v1))

set_option maxRecDepth 60000 in
/-- On the whole mesh, for any float values and from any memory with all counters at zero, every fair run of the program
    ends; then every counter is at zero, both arguments are as they were, and each device's result holds what its lanes
    wrote. -/
theorem run_mesh : θ_run defs (onTc (τ := τ) (main (F := F))) (s₀ m ρ) (fun r => Ran m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := deal m) (G' := got m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(semVal (barC c) 0 ∗ result m c)) (Z := fun _ => iprop(emp))
    (hX := start_intro m ρ) (hin := enter m) (hout := leave m)
    (QY := fun c s => (∀ sm : SemLoc sig, sm.isScoped .tc = false → s.sem ((c.tc : Thread nD τ), sm) = 0)
      ∧ Written m c (s.mem ((c : Thread nD τ).loc main_v1)))
    (hY := fun c s' => by
      iintro ⟨⟨Hu, Hr⟩, -, HSI⟩
      ihave H := (read_result m c s') $$ [Hr HSI]
      · isplitl [Hr] <;> iassumption
      icases H with ⟨%hw, HSI⟩
      ihave Hu := (Entails.of_eq (unscopedSems0_eq (F := F) c).symm) $$ Hu
      imod (Pipeline.unscopedSems0_read (X := unscopedSems0 c) (c := c) fupd_intro s') $$ [Hu HSI] with ⟨%hz, HSI⟩
      · isplitl [Hu] <;> iassumption
      imodintro
      isplitr
      · ipureintro; exact ⟨hz, hw⟩
      · iexact HSI)
    (hQ := fun _ h hs => ⟨fun c => ⟨fun w => (h c).1 w, (h c).2.2.2⟩, sem_eq_zero hs fun c => (h c).2.2.1⟩)

/-- The arguments' arrays after the run hold what they held. -/
theorem arr_kept (w : Fin cfg0.W) : (dats m 0 c).arrAt w cfg0.N = m ((cfg0.win w).arr.view.loc (c : Thread nD τ)) :=
  (dats m 0 c).arrAt_in w (by fin_cases w <;> rfl) _

end Cert.RingProof

end
-- ==== Proof.Frames.lean ====
/-
The frames: each program ends with its arguments kept and every counter at zero.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.SiluIdeal.Run

@[expose] public section

set_option maxRecDepth 60000

noncomputable section

namespace Cert.RingProof

open Idealize.ShloMosaic Idealize.ShloMosaic.TcCoe
open Idealize.SL.Sem

variable {F : FTy → Type} [FloatOps F]

section Kernel

open Cert.KernelIdeal Cert.KernelIdeal.Gen

/-- The run leaves device `c`'s first argument as it was. -/
theorem kept_x (m : (ℓ : Loc nD τ sig) → Buf (Elt F) ℓ) {r} (h : Ran m r) (c : Dev nD) :
    r.2.mem ((c : Thread nD τ).loc main_arg0) = m ((c : Thread nD τ).loc main_arg0) :=
  ((h c).1 0).trans (arr_kept m c 0)

/-- The run leaves device `c`'s second argument as it was. -/
theorem kept_w (m : (ℓ : Loc nD τ sig) → Buf (Elt F) ℓ) {r} (h : Ran m r) (c : Dev nD) :
    r.2.mem ((c : Thread nD τ).loc main_arg1) = m ((c : Thread nD τ).loc main_arg1) :=
  ((h c).1 1).trans (arr_kept m c 1)

/-- The mesh runs to the end, keeps both arguments on every device and leaves every counter at zero. -/
theorem run_frame (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => ⟨kept_x m h.1 c, kept_w m h.1 c⟩, h.2⟩) (run_mesh m ρ)

/-- The idealized kernel's frame. -/
theorem frame_kernelIdeal : Cert.quiescent_KernelIdeal := fun m ρ _ => run_frame (F := Ideal) m ρ

/-- The printed kernel's table of bodies is the idealized kernel's. -/
theorem tables_same : Cert.Kernel.defs₀ (F := F) = Cert.KernelIdeal.defs₀ := by
  delta Cert.Kernel.defs₀ Cert.KernelIdeal.defs₀
  refine congrArg Defs.onTc ?_
  funext k x
  fin_cases k
  rfl

/-- The printed kernel's whole table is the idealized kernel's. -/
theorem defs_same : Cert.Kernel.defs (F := F) = Cert.KernelIdeal.defs :=
  congrArg (Idealize.ShloMosaic.Pipeline.defs Cert.KernelIdeal.pcfgs) tables_same

/-- The kernel's frame: the same text, read at bits. -/
theorem frame_kernel : Cert.quiescent_Kernel := fun m ρ _ => by
  rw [defs_same]
  exact
  (θ_run Cert.KernelIdeal.defs _ _).mono     (fun _ h => h) (run_frame (F := Bits) m ρ)

end Kernel

/-- The reference's frame: its run writes no argument and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The silu's frame: its run writes no argument and it has no semaphore. -/
theorem frame_silu : Cert.quiescent_SiluIdeal := fun m ρ _ =>
  (θ_run Cert.SiluIdeal.defs _ _).mono
    (fun r h => ⟨fun c => (h c).2, sem_eq_zero_of_no_sems (by decide) r.2⟩)
    (Cert.SiluIdeal.Value.run (F := Ideal) m ρ)

end Cert.RingProof

end
-- ==== Proof.Values.lean ====
/-
The values: what the ring computes, over the extended reals, is the activation of the whole product.

Device `d` holds the columns `256 d … 256 d + 255` of the first array and those rows of the second, so the whole
product is the sum of the sixteen devices' products. A lane's matrix starts as one device's product of 64 rows and
collects one more at each of fifteen steps, so it ends as the sum over all of them.
-/
module

public import proofs.«01_k».proof.Proof.Launch
public import Idealize.ShloMosaic.Lib.Layout
public import Idealize.ShloMosaic.Lib.MatmulPlain
public import Idealize.ShloMosaic.Lib.StackMember
public import Idealize.ShloMosaic.Lib.Pipeline.ValueKit.Tiles
public import Idealize.ShloMosaic.Lib.Pipeline.ValueKit.Geometry
public import Mathlib.Algebra.BigOperators.Fin

@[expose] public section

noncomputable section

namespace Cert.RingProof

open Cert.KernelIdeal Cert.KernelIdeal.Gen
open Idealize.ShloMosaic Idealize.ShloMosaic.TcCoe Idealize.ShloMosaic.ValueIdx
open scoped BigOperators

/-! ## The whole product and its sixteen parts -/

section Sums
variable (X : (⟨2, ![4096, 4096]⟩ : Shape).Idx → EReal) (W : (⟨2, ![4096, 2048]⟩ : Shape).Idx → EReal)

/-- Device `d`'s `k`-th column of the first array, which is its `k`-th row of the second. -/
def col (d : Fin 16) (k : Fin 256) : Fin 4096 := ⟨k.val + 256 * d.val, by omega⟩

/-- Device `d`'s share of the product at row `r` and column `n`. -/
def share (d : Fin 16) (r : Fin 4096) (n : Fin 2048) : EReal := ∑ k : Fin 256, X (ix2 r (col d k)) * W (ix2 (col d k) n)

/-- The whole product at row `r` and column `n`. -/
def whole (r : Fin 4096) (n : Fin 2048) : EReal := ∑ k : Fin 4096, X (ix2 r k) * W (ix2 k n)

/-- The whole product is the sum of the devices' shares. -/
theorem whole_eq (r : Fin 4096) (n : Fin 2048) : whole X W r n = ∑ d : Fin 16, share X W d r n := by
  unfold whole share
  rw [← Fintype.sum_prod_type' (f := fun (d : Fin 16) (k : Fin 256) => X (ix2 r (col d k)) * W (ix2 (col d k) n))]
  exact (Equiv.sum_comp (finProdFinEquiv : Fin 16 × Fin 256 ≃ Fin 4096) (fun k => X (ix2 r k) * W (ix2 k n))).symm

/-- The device `i` places upstream of `c` along lane `l`. -/
def upN (l : Fin 4) : ℕ → Dev nD → Dev nD
  | 0, c => c
  | i + 1, c => upN l i (up c l)

theorem upN_injective : ∀ (l : Fin 4) (c : Dev nD), Function.Injective (fun i : Fin 16 => upN l i.val c) := by
  have h : ∀ (l : Fin 4) (c : Dev nD) (i j : Fin 16), upN l i.val c = upN l j.val c → i = j := by decide +kernel
  exact fun l c i j e => h l c i j e

/-- Sixteen places along a lane are all the devices, so the shares along it add up to the whole product. -/
theorem shares_along (l : Fin 4) (c : Dev nD) (r : Fin 4096) (n : Fin 2048) :
    ∑ i ∈ Finset.range 16, share X W (upN l i c) r n = whole X W r n := by
  rw [whole_eq, Finset.sum_range]
  exact Function.Bijective.sum_comp (Finite.injective_iff_bijective.mp (upN_injective l c)) (fun d => share X W d r n)

end Sums

/-! ## The rows a lane carries -/

/-- The first row of what lane `l` of device `c` sends at step `t`. -/
def row0 (t : ℕ) (c : Dev nD) (l : Fin 4) : ℕ :=
  256 * (if l.val < 2 then (c.val + 48 - t) % 16 else (c.val + t) % 16) + 64 * l.val

theorem row0_le (t : ℕ) (c : Dev nD) (l : Fin 4) : row0 t c l + 64 ≤ 4096 := by
  have hl : l.val < 4 := l.isLt
  unfold row0; split <;> omega

theorem up_val : ∀ (c : Dev nD) (l : Fin 4), (up c l).val = if l.val < 2 then (c.val + 15) % 16 else (c.val + 1) % 16 := by
  decide +kernel

/-- A step moves the same rows one device on. -/
theorem row0_up (t : ℕ) (ht : t < 31) (c : Dev nD) (l : Fin 4) : row0 t (up c l) l = row0 (t + 1) c l := by
  unfold row0; rw [up_val]
  have hc : c.val < 16 := c.isLt
  split <;> omega

/-- Row `a` of the sixty-four that start at `b`. -/
def rowAt (b : ℕ) (h : b + 64 ≤ 4096) (a : Fin 64) : Fin 4096 := ⟨b + a.val, by omega⟩

theorem rowAt_congr {b b' : ℕ} (e : b = b') (h : b + 64 ≤ 4096) (h' : b' + 64 ≤ 4096) (a : Fin 64) : rowAt b h a = rowAt b' h' a := by
  subst e; rfl

theorem off1_eq (c : Dev nD) (l : Fin 4) : k0_off1 c (BitVec.ofNat 32 (64 * l.val)) = ![row0 0 c l, 0] := by
  have hc : c.val < 16 := c.isLt
  have h := k0_off1_eq c l
  refine h.trans ?_
  unfold row0
  have e : (if l.val < 2 then (c.val + 48 - 0) % 16 else (c.val + 0) % 16) = c.val := by split <;> omega
  rw [e]

theorem xoff_eq (c : Dev nD) (t : Fin 15) (l : Fin 4) : xoff c t l = ![row0 (t.val + 1) c l, 0] := by
  have hc : c.val < 16 := c.isLt
  have ht : t.val < 15 := t.isLt
  have e2 : c.val + 48 - (t.val + 1) = c.val + 47 - t.val := by omega
  match l with
  | 0 => exact (k0_off2_eq c t 0).trans (by unfold row0; simp; omega)
  | 1 => exact (k0_off2_eq c t 1).trans (by unfold row0; simp; omega)
  | 2 => exact (k0_off3_eq c t 0).trans (by unfold row0; simp; omega)
  | 3 => exact (k0_off3_eq c t 1).trans (by unfold row0; simp; omega)

theorem row0_out (c : Dev nD) (j : Fin 16) (l : Fin 4) : row0 (15 + j.val) c l = 256 * ochunk c j l + 64 * l.val := by
  have hc : c.val < 16 := c.isLt
  have hj : j.val < 16 := j.isLt
  unfold row0 ochunk; split <;> omega

/-! ## What the lanes carry -/

section Chain
variable (X : (⟨2, ![4096, 4096]⟩ : Shape).Idx → EReal) (W : (⟨2, ![4096, 2048]⟩ : Shape).Idx → EReal)
variable (m : (ℓ : Loc nD τ sig) → Buf (Elt Ideal) ℓ)

/-- Every device's arguments are its blocks of the whole arrays. -/
def Cut : Prop := ∀ c : Dev nD,
  m ((c : Thread nD τ).loc main_arg0) = Layout.block (α := EReal) ⟨2, ![4096, 256]⟩ ⟨2, ![4096, 4096]⟩ 1 16 c X
  ∧ m ((c : Thread nD τ).loc main_arg1) = Layout.block (α := EReal) ⟨2, ![256, 2048]⟩ ⟨2, ![4096, 2048]⟩ 0 16 c W

theorem xstg_eq (c : Dev nD) : xstg m c = m ((c : Thread nD τ).loc main_arg0) := by
  funext x
  refine congrArg (m ((c : Thread nD τ).loc main_arg0)) (funext fun d => Fin.ext ?_)
  refine (ValueKit.rect_emb_unit_val _ _ _ _ d).trans ?_
  match d with
  | ⟨0, _⟩ => show 0 * 4096 + (x 0).val = (x 0).val; omega
  | ⟨1, _⟩ => show 0 * 256 + (x 1).val = (x 1).val; omega
theorem wstg_eq (c : Dev nD) : wstg m c = m ((c : Thread nD τ).loc main_arg1) := by
  funext x
  refine congrArg (m ((c : Thread nD τ).loc main_arg1)) (funext fun d => Fin.ext ?_)
  refine (ValueKit.rect_emb_unit_val _ _ _ _ d).trans ?_
  match d with
  | ⟨0, _⟩ => show 0 * 256 + (x 0).val = (x 0).val; omega
  | ⟨1, _⟩ => show 0 * 2048 + (x 1).val = (x 1).val; omega

theorem xbuf_eq (c : Dev nD) : xbuf m c = m ((c : Thread nD τ).loc main_arg0) := by
  unfold xbuf k0_pay1
  simp only [shapeCast_self]
  exact xstg_eq m c
theorem wbuf_eq (c : Dev nD) : wbuf m c = m ((c : Thread nD τ).loc main_arg1) := by
  unfold wbuf k0_pay2
  simp only [shapeCast_self]
  exact wstg_eq m c

variable {X W m}

theorem xbuf_apply (h : Cut X W m) (c : Dev nD) (r : Fin 4096) (k : Fin 256) :
    xbuf m c (ix2 r k) = X (ix2 r (col c k)) := by
  rw [xbuf_eq, (h c).1]
  refine congrArg X (funext fun a => Fin.ext ?_)
  match a with
  | ⟨0, _⟩ => rfl
  | ⟨1, _⟩ => show c.val * 256 + k.val = k.val + 256 * c.val; omega
theorem wbuf_apply (h : Cut X W m) (c : Dev nD) (k : Fin 256) (n : Fin 2048) :
    wbuf m c (ix2 k n) = W (ix2 (col c k) n) := by
  rw [wbuf_eq, (h c).2]
  refine congrArg W (funext fun a => Fin.ext ?_)
  match a with
  | ⟨0, _⟩ => show c.val * 256 + k.val = k.val + 256 * c.val; omega
  | ⟨1, _⟩ => rfl

/-- A device's product of the 64 rows at `b` is its share of those rows. -/
theorem prodAt_apply (h : Cut X W m) (c : Dev nD) (off : Fin 2 → Nat) (hi : ∀ a, off a + S64x256.size a ≤ S4096x256.size a)
    (b : ℕ) (hb : b + 64 ≤ 4096) (e : off = ![b, 0]) (a : Fin 64) (n : Fin 2048) :
    prodAt m c off hi (ix2 a n) = share X W c (rowAt b hb a) n := by
  subst e
  unfold prodAt part
  refine (Ideal.matmul_plain_apply (M := 64) (K := 256) (N := 2048) none _ _ _ a n).trans ?_
  rw [show (constant (F := Ideal) S64x2048 .f32 0x00000000#32) (ix2 a n) = (0 : EReal) from Ideal.ofBits_zero_f32, zero_add]
  refine Finset.sum_congr rfl fun k _ => ?_
  refine congrArg₂ (· * ·) ?_ ?_
  · rw [← xbuf_apply h c (rowAt b hb a) k]
    refine congrArg (xbuf m c) (funext fun d => Fin.ext ?_)
    refine (Rect.idx_unit_val _ _ _ _ d).trans ?_
    match d with
    | ⟨0, _⟩ => rfl
    | ⟨1, _⟩ => exact Nat.zero_add _
  · rw [← wbuf_apply h c k n]
    refine congrArg (wbuf m c) (funext fun d => Fin.ext ?_)
    refine (Rect.idx_unit_val _ _ _ _ d).trans ?_
    match d with
    | ⟨0, _⟩ => exact Nat.zero_add _
    | ⟨1, _⟩ => exact Nat.zero_add _

theorem ownV_apply (h : Cut X W m) (c : Dev nD) (l : Fin 4) (a : Fin 64) (n : Fin 2048) :
    ownV m c l (ix2 a n) = share X W c (rowAt (row0 0 c l) (row0_le 0 c l) a) n :=
  prodAt_apply h c _ _ _ _ (off1_eq c l) a n

theorem partV_apply (h : Cut X W m) (c : Dev nD) (t : Fin 15) (l : Fin 4) (a : Fin 64) (n : Fin 2048) :
    partV m c t l (ix2 a n) = share X W c (rowAt (row0 (t.val + 1) c l) (row0_le _ c l) a) n :=
  prodAt_apply h c _ _ _ _ (xoff_eq c t l) a n

/-- Adding a device's share to what the upstream device sent gives one more share along the lane. -/
theorem share_step (c : Dev nD) (l : Fin 4) (t : ℕ) (ht : t < 15) (a : Fin 64) (n : Fin 2048) :
    share X W c (rowAt (row0 (t + 1) c l) (row0_le _ c l) a) n
      + ∑ i ∈ Finset.range (t + 1), share X W (upN l i (up c l)) (rowAt (row0 t (up c l) l) (row0_le _ _ l) a) n
    = ∑ i ∈ Finset.range (t + 2), share X W (upN l i c) (rowAt (row0 (t + 1) c l) (row0_le _ c l) a) n := by
  rw [Finset.sum_range_succ' _ (t + 1), add_comm,
    rowAt_congr (row0_up t (by omega) c l) (row0_le _ _ l) (row0_le _ c l) a]
  rfl

/-- Up to step 14 a lane sends the sum of the shares of the devices passed so far. -/
theorem sentV_sum (h : Cut X W m) (l : Fin 4) : ∀ (t : ℕ) (ht : t ≤ 14) (c : Dev nD) (a : Fin 64) (n : Fin 2048),
    sentV m t c l (ix2 a n)
      = ∑ i ∈ Finset.range (t + 1), share X W (upN l i c) (rowAt (row0 t c l) (row0_le t c l) a) n
  | 0, _, c, a, n => by
    rw [Finset.sum_range_one]
    exact ownV_apply h c l a n
  | t + 1, ht, c, a, n => by
    rw [sent_add m c l t (by omega)]
    refine Eq.trans ?_ (share_step c l t (by omega) a n)
    exact congrArg₂ (· + ·) (partV_apply h c ⟨t, by omega⟩ l a n) (sentV_sum h l t (by omega) (up c l) a n)

/-- The activation of one number. -/
def silu (y : EReal) : EReal := y * Ideal.logistic y

/-- At the fifteenth addition the sum is the whole product. -/
theorem done_apply (h : Cut X W m) (c : Dev nD) (l : Fin 4) (a : Fin 64) (n : Fin 2048) :
    addf (partV m c 14 l) (wide (sentV m 14 (up c l) l)) (ix2 a n)
      = whole X W (rowAt (row0 15 c l) (row0_le 15 c l) a) n := by
  rw [← shares_along X W l c]
  refine Eq.trans ?_ (share_step c l 14 (by omega) a n)
  exact congrArg₂ (· + ·) (partV_apply h c 14 l a n) (sentV_sum h l 14 (by omega) (up c l) a n)

theorem act_apply (v : FVec Ideal S64x2048 .f32) (i : S64x2048.Idx) : act v i = silu (v i) := rfl

/-- From step 15 on a lane sends the activation of the whole product. -/
theorem sentV_silu (h : Cut X W m) (l : Fin 4) : ∀ (j : ℕ) (hj : j ≤ 15) (c : Dev nD) (a : Fin 64) (n : Fin 2048),
    sentV m (15 + j) c l (ix2 a n) = silu (whole X W (rowAt (row0 (15 + j) c l) (row0_le _ c l) a) n)
  | 0, _, c, a, n => by
    rw [sent_act m c l]
    exact congrArg silu (done_apply h c l a n)
  | j + 1, hj, c, a, n => by
    rw [show 15 + (j + 1) = (15 + j) + 1 from rfl, sent_pass m c l (15 + j) (by omega), sentV_silu h l j (by omega) (up c l) a n,
      rowAt_congr (row0_up (15 + j) (by omega) c l) (row0_le _ _ l) (row0_le _ c l) a]

/-- What a lane writes to the result is the activation of the whole product at its rows. -/
theorem outV_apply (h : Cut X W m) (c : Dev nD) (l : Fin 4) (j : ℕ) (hj : j ≤ 15) (a : Fin 64) (n : Fin 2048) :
    outV m c l j (ix2 a n) = silu (whole X W (rowAt (row0 (15 + j) c l) (row0_le _ c l) a) n) := by
  match j with
  | 0 => exact congrArg silu (done_apply h c l a n)
  | j + 1 =>
    rw [show 15 + (j + 1) = (15 + j) + 1 from rfl,
      ← rowAt_congr (row0_up (15 + j) (by omega) c l) (row0_le _ _ l) (row0_le _ c l) a,
      ← sentV_silu h l j (by omega) (up c l) a n, show 15 + j = 14 + (j + 1) by omega]
    rfl

/-- The result of every device is the activation of the whole product. -/
theorem written_silu (h : Cut X W m) (c : Dev nD) (f : Buf (Elt Ideal) ((c : Thread nD τ).loc main_v1)) (hf : Written m c f)
    (i : S4096x2048.Idx) : f i = silu (whole X W (i 0) (i 1)) := by
  obtain ⟨⟨l, j⟩, -, h1, h2⟩ := row_mem c i
  dsimp only at h1 h2
  have e := (congrFun (hf l j) (ix2 (n0 := 64) (n1 := 2048) ⟨(i 0).val - (256 * ochunk c j l + 64 * l.val), by omega⟩ (i 1))).trans
    (outV_apply h c l j.val (by omega) _ _)
  have hr : rowAt (row0 (15 + j.val) c l) (row0_le _ c l) ⟨(i 0).val - (256 * ochunk c j l + 64 * l.val), by omega⟩ = i 0 := by
    apply Fin.ext
    show row0 (15 + j.val) c l + ((i 0).val - (256 * ochunk c j l + 64 * l.val)) = (i 0).val
    rw [row0_out]; omega
  rw [hr] at e
  rw [← e]
  refine congrArg f (funext fun d => Fin.ext ?_)
  refine Eq.symm ((ValueKit.rect_emb_unit_val _ _ _ _ d).trans ?_)
  refine (congrArg (· + _) (congrFun (ooff_eq c j l) d)).trans ?_
  match d with
  | ⟨0, _⟩ => show 256 * ochunk c j l + 64 * l.val + ((i 0).val - (256 * ochunk c j l + 64 * l.val)) = (i 0).val; omega
  | ⟨1, _⟩ => exact Nat.zero_add _

end Chain

end Cert.RingProof

end
-- ==== Proof.Claims.lean ====
/-
The value claims: on every device the result is the silu of the whole product, and it is the reference's wherever the
reference's clip leaves the product as it is.
-/
module

public import proofs.«01_k».proof.Proof.Frames
public import proofs.«01_k».proof.Proof.Values
public import proofs.«01_k».proof.Proof.Gen.On_unclipped
public import Idealize.ShloMosaic.PureOps.Ideal.Laws
public import Idealize.ShloMosaic.Lib.IdealHost
public import Mathlib.Tactic.NormNum

@[expose] public section

noncomputable section

namespace Cert.RingProof

open Idealize.ShloMosaic Idealize.ShloMosaic.TcCoe Idealize.ShloMosaic.ValueIdx
open Idealize.SL.Sem
open scoped BigOperators

/-- The pattern `0x42700000` is sixty. -/
theorem bits_sixty : Ideal.ofBits .f32 0x42700000#32 = ((60 : ℝ) : EReal) := by
  simp [Ideal.ofBits, Ideal.ieee, -EReal.coe_mul]; norm_num
/-- The pattern `0xC2700000` is minus sixty. -/
theorem bits_minus_sixty : Ideal.ofBits .f32 0xC2700000#32 = -((60 : ℝ) : EReal) := by
  rw [← EReal.coe_neg]
  simp [Ideal.ofBits, Ideal.ieee, -EReal.coe_mul, -EReal.coe_neg]; norm_num

/-- One plus an exponential is not zero. -/
theorem one_add_exp_ne (y : EReal) : 1 + Ideal.exp y ≠ 0 := by
  have h : 0 ≤ Ideal.exp y := by
    induction y using EReal.rec with
    | bot => exact le_refl _
    | top => exact le_top
    | coe r => exact EReal.coe_nonneg.mpr (Real.exp_pos r).le
  exact (lt_of_lt_of_le zero_lt_one (le_add_of_nonneg_right h)).ne'

/-- A number over one plus its negative's exponential is its silu. -/
theorem over_silu (y : EReal) : Ideal.div y (1 + Ideal.exp (-y)) = silu y := by
  unfold silu Ideal.logistic Ideal.div
  rw [if_neg (one_add_exp_ne _), if_neg (one_add_exp_ne _), one_mul]

/-- A number between minus sixty and sixty is its own clip. -/
theorem clip_self (y b : EReal) (h : max y (-y) ≤ b) : min b (max (-b) y) = y := by
  have h1 : y ≤ b := (le_max_left _ _).trans h
  have h2 : -b ≤ y := EReal.neg_le_of_neg_le ((le_max_right _ _).trans h)
  rw [max_eq_right h2, min_eq_right h1]

section Host
variable (X : FVec Ideal (⟨2, ![4096, 4096]⟩ : Shape) .bf16) (W : FVec Ideal (⟨2, ![4096, 2048]⟩ : Shape) .bf16)

/-- The host's product of the widened arrays is the whole product. -/
theorem host_dot (hX hW : FTy.bits .bf16 < FTy.bits .f32) (i : (⟨2, ![4096, 2048]⟩ : Shape).Idx) :
    Host.dotGeneral (DotDims.plain 4096 4096 2048) none (extf .f32 X hX) (extf .f32 W hW) i = whole X W (i 0) (i 1) := by
  conv_lhs => rw [eq_ix2 i]
  exact StackMember.dotGeneral_plain_apply none _ _ (i 0) (i 1)

/-- The host's product of the widened arrays, as an array. -/
abbrev hostDot (hX hW : FTy.bits .bf16 < FTy.bits .f32) : FVec Ideal (⟨2, ![4096, 2048]⟩ : Shape) .f32 :=
  Host.dotGeneral (DotDims.plain 4096 4096 2048) none (extf .f32 X hX) (extf .f32 W hW)

/-- An element times one over one plus its negative's exponential, with one read from its pattern, is its silu. -/
theorem silu_text (y : EReal) :
    y * Ideal.div (Ideal.ofBits .f32 0x3F800000#32) (Ideal.ofBits .f32 0x3F800000#32 + Ideal.exp (-y)) = silu y := by
  rw [Ideal.ofBits_one_f32]; rfl

/-- The reference's element, with its constants read from their patterns, is the silu where the clip is idle. -/
theorem clip_text (y : EReal) (h : Ideal.cmp .ole (max y (-y)) (Ideal.ofBits .f32 0x42700000#32) = 1#1) :
    Ideal.div y (Ideal.ofBits .f32 0x3F800000#32 + Ideal.exp
      (-(min (Ideal.ofBits .f32 0x42700000#32) (max (Ideal.ofBits .f32 0xC2700000#32) y)))) = silu y := by
  have hle : max y (-y) ≤ Ideal.ofBits .f32 0x42700000#32 := by
    by_contra hn
    unfold Ideal.cmp at h
    simp only [decide_eq_false hn] at h
    exact absurd h (by decide)
  rw [Ideal.ofBits_one_f32, bits_minus_sixty]
  rw [bits_sixty] at hle ⊢
  rw [clip_self y _ hle]
  exact over_silu y

end Host

/-- Every device ends with the silu of the whole product, and with its arguments as they were. -/
theorem kernel_silu (m : (ℓ : Loc Cert.KernelIdeal.nD Cert.KernelIdeal.τ Cert.KernelIdeal.sig) → Buf (Elt Ideal) ℓ)
    (g : Dev Cert.KernelIdeal.nD → PrngReg)
    (X : (⟨2, ![4096, 4096]⟩ : Shape).Idx → EReal) (W : (⟨2, ![4096, 2048]⟩ : Shape).Idx → EReal) (h : Cut X W m) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c : Thread Cert.KernelIdeal.nD Cert.KernelIdeal.τ).loc Cert.KernelIdeal.main_v1)
            = (fun i => silu (whole X W (i 0) (i 1)))
        ∧ r.2.mem ((c : Thread Cert.KernelIdeal.nD Cert.KernelIdeal.τ).loc Cert.KernelIdeal.main_arg0)
            = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1)
            = m ((c : Thread Cert.KernelIdeal.nD Cert.KernelIdeal.τ).loc Cert.KernelIdeal.main_arg1)) :=
  (θ_run Cert.KernelIdeal.defs _ _).mono
    (fun r hr c => ⟨funext fun i => written_silu h c _ (hr.1 c).2 i, kept_x m hr.1 c, kept_w m hr.1 c⟩) (run_mesh m g)

/-- The kernel's result is the whole silu, on every device and at every element. -/
theorem algebraic_silu : Cert.algebraic_KernelIdeal_SiluIdeal := fun m g m' g' _ h =>
  ⟨fun i => silu (whole _ _ (i 0) (i 1)), kernel_silu m g _ _ h,
    (θ_run Cert.SiluIdeal.defs _ _).mono
      (fun r hr => ⟨(hr 0).1.trans (funext fun i =>
        (silu_text (hostDot _ _ (by decide) (by decide) i)).trans (congrArg silu (host_dot _ _ _ _ i))), (hr 0).2⟩)
      (Cert.SiluIdeal.Value.run (F := Ideal) m' g')⟩

/-- The kernel's result is the reference's, on every device, at every element the reference's clip leaves alone. -/
theorem algebraic_reference : Cert.algebraic_KernelIdeal_ReferenceIdeal_on_unclipped := fun m g m' g' _ h =>
  ⟨fun i => silu (whole _ _ (i 0) (i 1)),
    (θ_run Cert.KernelIdeal.defs _ _).mono (fun r hr c => ⟨fun i _ => congrFun (hr c).1 i, (hr c).2⟩)
      (kernel_silu m g _ _ h),
    (θ_run Cert.ReferenceIdeal.defs _ _).mono
      (fun r hr => ⟨fun i hi => (congrFun (hr 0).1 i).trans
        ((clip_text (hostDot _ _ (by decide) (by decide) i) hi).trans (congrArg silu (host_dot _ _ _ _ i))), (hr 0).2⟩)
      (Cert.ReferenceIdeal.Value.run (F := Ideal) m' g')⟩

end Cert.RingProof

end
-- ==== Proof.lean ====
/-
The proof of the certificate's claims.
-/
module

public import proofs.«01_k».proof.Defs
public import proofs.«01_k».proof.Proof.Frames
public import proofs.«01_k».proof.Proof.Claims
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_unclipped

@[expose] public section

noncomputable section

namespace Cert.Proof

/-- The claims: the frames of the kernel, of its idealization, of the reference and of the silu; that the idealization
preserves the kernel; that its result is the reference's wherever the reference's clip is idle; and that its result is
the silu of the whole product everywhere. -/
theorem claim : Cert.Claim :=
  ⟨Cert.Kernel.Gen.facts, Cert.KernelIdeal.Gen.facts, Cert.ReferenceIdeal.Gen.facts, Cert.SiluIdeal.Gen.facts,
    Cert.On_unclipped.Gen.facts, Cert.RingProof.frame_kernel, Cert.RingProof.frame_kernelIdeal,
    Cert.RingProof.frame_reference, Cert.RingProof.frame_silu, trivial, Cert.RingProof.algebraic_reference,
    Cert.RingProof.algebraic_silu⟩

end Cert.Proof

end
